-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_v105) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S4x128x256 : Shape := ⟨3, ![4, 128, 256]⟩
abbrev S128x512 : Shape := ⟨2, ![128, 512]⟩
abbrev S4x128 : Shape := ⟨2, ![4, 128]⟩
abbrev S128 : Shape := ⟨1, ![128]⟩
abbrev S256x128 : Shape := ⟨2, ![256, 128]⟩
abbrev S_ : Shape := ⟨0, ![]⟩

class Facts : Prop where
  bcast_S_S4x128x256 : S_.BroadcastsInDim S4x128x256 (![] : Fin 0 → Fin S4x128x256.rank)
  reducesTo_S4x128x256_S_d0_1_2 : S4x128x256.ReducesTo [0, 1, 2] S_
  h_S_ : 0 < S_.numel
  bcast_S_S128x512 : S_.BroadcastsInDim S128x512 (![] : Fin 0 → Fin S128x512.rank)
  reducesTo_S128x512_S_d0_1 : S128x512.ReducesTo [0, 1] S_
  bcast_S_S4x128 : S_.BroadcastsInDim S4x128 (![] : Fin 0 → Fin S4x128.rank)
  reducesTo_S4x128_S_d0_1 : S4x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_

variable [Facts]

def fn_part3 {F : FTy → Type} [FloatOps F] (main_v31 : IVec S_ 1) (main_v35 : IVec S_ 1) (main_v39 : IVec S_ 1) (main_v43 : IVec S_ 1) (main_v49 : IVec S_ 1) : IVec S_ 1 :=
  let main_v50 : IVec S_ 1 := andi main_v49 main_v31
  let main_v51 : IVec S_ 1 := andi main_v50 main_v35
  let main_v52 : IVec S_ 1 := andi main_v51 main_v39
  let main_v53 : IVec S_ 1 := andi main_v52 main_v43
  main_v53

def fn_part2 {F : FTy → Type} [FloatOps F] (main_arg8 : FVec F S128x512 .f32) (main_arg9 : FVec F S4x128 .f32) (main_arg10 : FVec F S4x128 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S128x512 .f32 := Host.absf main_arg8
  let main_cst_14 : FVec F S_ .f32 := constant S_ .f32 0x7F800000#32
  let main_v33 : FVec F S128x512 .f32 := broadcastInDim S128x512 ![] bcast_S_S128x512 main_cst_14
  let main_v34 : IVec S128x512 1 := cmpf .olt main_v32 main_v33
  let main_c_15 : IVec S_ 1 := constantI S_ 1 1#1
  let main_v35 : IVec S_ 1 := (fun x v => Host.reduce IntOp.andi x v reducesTo_S128x512_S_d0_1 h_S_) main_v34 main_c_15
  let main_v36 : FVec F S4x128 .f32 := Host.absf main_arg9
  let main_cst_16 : FVec F S_ .f32 := constant S_ .f32 0x7F800000#32
  let main_v37 : FVec F S4x128 .f32 := broadcastInDim S4x128 ![] bcast_S_S4x128 main_cst_16
  let main_v38 : IVec S4x128 1 := cmpf .olt main_v36 main_v37
  let main_c_17 : IVec S_ 1 := constantI S_ 1 1#1
  let main_v39 : IVec S_ 1 := (fun x v => Host.reduce IntOp.andi x v reducesTo_S4x128_S_d0_1 h_S_) main_v38 main_c_17
  let main_v40 : FVec F S4x128 .f32 := Host.absf main_arg10
  let main_cst_18 : FVec F S_ .f32 := constant S_ .f32 0x7F800000#32
  let main_v41 : FVec F S4x128 .f32 := broadcastInDim S4x128 ![] bcast_S_S4x128 main_cst_18
  let main_v42 : IVec S4x128 1 := cmpf .olt main_v40 main_v41
  let main_c_19 : IVec S_ 1 := constantI S_ 1 1#1
  let main_v43 : IVec S_ 1 := (fun x v => Host.reduce IntOp.andi x v reducesTo_S4x128_S_d0_1 h_S_) main_v42 main_c_19
  let main_v44 : IVec S_ 1 := andi main_v3 main_v7
  let main_v45 : IVec S_ 1 := andi main_v44 main_v11
  let main_v46 : IVec S_ 1 := andi main_v45 main_v15
  let main_v47 : IVec S_ 1 := andi main_v46 main_v19
  let main_v48 : IVec S_ 1 := andi main_v47 main_v23
  let main_v49 : IVec S_ 1 := andi main_v48 main_v27
  fn_part3 (F := F) main_v31 main_v35 main_v39 main_v43 main_v49

def fn_part1 {F : FTy → Type} [FloatOps F] (main_arg4 : FVec F S4x128 .f32) (main_arg5 : FVec F S128 .f32) (main_arg6 : FVec F S256x128 .f32) (main_arg7 : FVec F S128 .f32) (main_arg8 : FVec F S128x512 .f32) (main_arg9 : FVec F S4x128 .f32) (main_arg10 : FVec F S4x128 .f32) (main_v3 : IVec S_ 1) (main_v7 : IVec S_ 1) (main_v11 : IVec S_ 1) (main_v15 : IVec S_ 1) : IVec S_ 1 :=
  let main_v16 : FVec F S4x128 .f32 := Host.absf main_arg4
  let main_cst_6 : FVec F S_ .f32 := constant S_ .f32 0x7F800000#32
  let main_v17 : FVec F S4x128 .f32 := broadcastInDim S4x128 ![] bcast_S_S4x128 main_cst_6
  let main_v18 : IVec S4x128 1 := cmpf .olt main_v16 main_v17
  let main_c_7 : IVec S_ 1 := constantI S_ 1 1#1
  let main_v19 : IVec S_ 1 := (fun x v => Host.reduce IntOp.andi x v reducesTo_S4x128_S_d0_1 h_S_) main_v18 main_c_7
  let main_v20 : FVec F S128 .f32 := Host.absf main_arg5
  let main_cst_8 : FVec F S_ .f32 := constant S_ .f32 0x7F800000#32
  let main_v21 : FVec F S128 .f32 := broadcastInDim S128 ![] bcast_S_S128 main_cst_8
  let main_v22 : IVec S128 1 := cmpf .olt main_v20 main_v21
  let main_c_9 : IVec S_ 1 := constantI S_ 1 1#1
  let main_v23 : IVec S_ 1 := (fun x v => Host.reduce IntOp.andi x v reducesTo_S128_S_d0 h_S_) main_v22 main_c_9
  let main_v24 : FVec F S256x128 .f32 := Host.absf main_arg6
  let main_cst_10 : FVec F S_ .f32 := constant S_ .f32 0x7F800000#32
  let main_v25 : FVec F S256x128 .f32 := broadcastInDim S256x128 ![] bcast_S_S256x128 main_cst_10
  let main_v26 : IVec S256x128 1 := cmpf .olt main_v24 main_v25
  let main_c_11 : IVec S_ 1 := constantI S_ 1 1#1
  let main_v27 : IVec S_ 1 := (fun x v => Host.reduce IntOp.andi x v reducesTo_S256x128_S_d0_1 h_S_) main_v26 main_c_11
  let main_v28 : FVec F S128 .f32 := Host.absf main_arg7
  let main_cst_12 : FVec F S_ .f32 := constant S_ .f32 0x7F800000#32
  let main_v29 : FVec F S128 .f32 := broadcastInDim S128 ![] bcast_S_S128 main_cst_12
  let main_v30 : IVec S128 1 := cmpf .olt main_v28 main_v29
  let main_c_13 : IVec S_ 1 := constantI S_ 1 1#1
  let main_v31 : IVec S_ 1 := (fun x v => Host.reduce IntOp.andi x v reducesTo_S128_S_d0 h_S_) main_v30 main_c_13
  fn_part2 (F := F) main_arg8 main_arg9 main_arg10 main_v3 main_v7 main_v11 main_v15 main_v19 main_v23 main_v27 main_v31

def fn {F : FTy → Type} [FloatOps F] (main_arg0 : FVec F S4x128x256 .f32) (main_arg1 : FVec F S4x128x256 .f32) (main_arg2 : FVec F S128x512 .f32) (main_arg3 : FVec F S4x128 .f32) (main_arg4 : FVec F S4x128 .f32) (main_arg5 : FVec F S128 .f32) (main_arg6 : FVec F S256x128 .f32) (main_arg7 : FVec F S128 .f32) (main_arg8 : FVec F S128x512 .f32) (main_arg9 : FVec F S4x128 .f32) (main_arg10 : FVec F S4x128 .f32) (main_arg11 : FVec F S128 .f32) (main_arg12 : FVec F S256x128 .f32) (main_arg13 : FVec F S128 .f32) : IVec S_ 1 :=
  let main_v0 : FVec F S4x128x256 .f32 := Host.absf main_arg0
  let main_cst : FVec F S_ .f32 := constant S_ .f32 0x7F800000#32
  let main_v1 : FVec F S4x128x256 .f32 := broadcastInDim S4x128x256 ![] bcast_S_S4x128x256 main_cst
  let main_v2 : IVec S4x128x256 1 := cmpf .olt main_v0 main_v1
  let main_c : IVec S_ 1 := constantI S_ 1 1#1
  let main_v3 : IVec S_ 1 := (fun x v => Host.reduce IntOp.andi x v reducesTo_S4x128x256_S_d0_1_2 h_S_) main_v2 main_c
  let main_v4 : FVec F S4x128x256 .f32 := Host.absf main_arg1
  let main_cst_0 : FVec F S_ .f32 := constant S_ .f32 0x7F800000#32
  let main_v5 : FVec F S4x128x256 .f32 := broadcastInDim S4x128x256 ![] bcast_S_S4x128x256 main_cst_0
  let main_v6 : IVec S4x128x256 1 := cmpf .olt main_v4 main_v5
  let main_c_1 : IVec S_ 1 := constantI S_ 1 1#1
  let main_v7 : IVec S_ 1 := (fun x v => Host.reduce IntOp.andi x v reducesTo_S4x128x256_S_d0_1_2 h_S_) main_v6 main_c_1
  let main_v8 : FVec F S128x512 .f32 := Host.absf main_arg2
  let main_cst_2 : FVec F S_ .f32 := constant S_ .f32 0x7F800000#32
  let main_v9 : FVec F S128x512 .f32 := broadcastInDim S128x512 ![] bcast_S_S128x512 main_cst_2
  let main_v10 : IVec S128x512 1 := cmpf .olt main_v8 main_v9
  let main_c_3 : IVec S_ 1 := constantI S_ 1 1#1
  let main_v11 : IVec S_ 1 := (fun x v => Host.reduce IntOp.andi x v reducesTo_S128x512_S_d0_1 h_S_) main_v10 main_c_3
  let main_v12 : FVec F S4x128 .f32 := Host.absf main_arg3
  let main_cst_4 : FVec F S_ .f32 := constant S_ .f32 0x7F800000#32
  let main_v13 : FVec F S4x128 .f32 := broadcastInDim S4x128 ![] bcast_S_S4x128 main_cst_4
  let main_v14 : IVec S4x128 1 := cmpf .olt main_v12 main_v13
  let main_c_5 : IVec S_ 1 := constantI S_ 1 1#1
  let main_v15 : IVec S_ 1 := (fun x v => Host.reduce IntOp.andi x v reducesTo_S4x128_S_d0_1 h_S_) main_v14 main_c_5
  fn_part1 (F := F) main_arg4 main_arg5 main_arg6 main_arg7 main_arg8 main_arg9 main_arg10 main_v3 main_v7 main_v11 main_v15
-- ==== Kernel.lean ====
abbrev S4x128x256 : Shape := ⟨3, ![4, 128, 256]⟩
abbrev S128x512 : Shape := ⟨2, ![128, 512]⟩
abbrev S4x128 : Shape := ⟨2, ![4, 128]⟩
abbrev S128 : Shape := ⟨1, ![128]⟩
abbrev S256x128 : Shape := ⟨2, ![256, 128]⟩
abbrev S1x128 : Shape := ⟨2, ![1, 128]⟩
abbrev S1x128x256 : Shape := ⟨3, ![1, 128, 256]⟩
abbrev S128x256 : Shape := ⟨2, ![128, 256]⟩
abbrev S256x512 : Shape := ⟨2, ![256, 512]⟩
abbrev S1x256 : Shape := ⟨2, ![1, 256]⟩
abbrev S256x1 : Shape := ⟨2, ![256, 1]⟩
abbrev S256x256 : Shape := ⟨2, ![256, 256]⟩
abbrev S256 : Shape := ⟨1, ![256]⟩
abbrev S128x128 : Shape := ⟨2, ![128, 128]⟩

abbrev nBuf : Space → Nat
  | .hbm => 20
  | .vmem => 16
  | .smem => 0
  | _ => 0

abbrev bufTy : (tb : Table) → Fin (tcTables nBuf tb) → BufTy
  | .hbm, ⟨0, _⟩ => ⟨S4x128x256, .f32⟩
  | .hbm, ⟨1, _⟩ => ⟨S4x128x256, .f32⟩
  | .hbm, ⟨2, _⟩ => ⟨S128x512, .f32⟩
  | .hbm, ⟨3, _⟩ => ⟨S4x128, .f32⟩
  | .hbm, ⟨4, _⟩ => ⟨S4x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S128x512, .f32⟩
  | .hbm, ⟨9, _⟩ => ⟨S4x128, .f32⟩
  | .hbm, ⟨10, _⟩ => ⟨S4x128, .f32⟩
  | .hbm, ⟨11, _⟩ => ⟨S128, .f32⟩
  | .hbm, ⟨12, _⟩ => ⟨S256x128, .f32⟩
  | .hbm, ⟨13, _⟩ => ⟨S128, .f32⟩
  | .hbm, ⟨14, _⟩ => ⟨S1x128, .f32⟩
  | .hbm, ⟨15, _⟩ => ⟨S1x128, .f32⟩
  | .hbm, ⟨16, _⟩ => ⟨S1x128, .f32⟩
  | .hbm, ⟨17, _⟩ => ⟨S1x128, .f32⟩
  | .hbm, ⟨18, _⟩ => ⟨S4x128x256, .f32⟩
  | .hbm, ⟨19, _⟩ => ⟨S4x128x256, .f32⟩
  | .local _ .vmem, ⟨0, _⟩ => ⟨S4x128x256, .f32⟩
  | .local _ .vmem, ⟨1, _⟩ => ⟨S4x128x256, .f32⟩
  | .local _ .vmem, ⟨2, _⟩ => ⟨S128x512, .f32⟩
  | .local _ .vmem, ⟨3, _⟩ => ⟨S4x128, .f32⟩
  | .local _ .vmem, ⟨4, _⟩ => ⟨S4x128, .f32⟩
  | .local _ .vmem, ⟨5, _⟩ => ⟨S1x128, .f32⟩
  | .local _ .vmem, ⟨6, _⟩ => ⟨S256x128, .f32⟩
  | .local _ .vmem, ⟨7, _⟩ => ⟨S1x128, .f32⟩
  | .local _ .vmem, ⟨8, _⟩ => ⟨S128x512, .f32⟩
  | .local _ .vmem, ⟨9, _⟩ => ⟨S4x128, .f32⟩
  | .local _ .vmem, ⟨10, _⟩ => ⟨S4x128, .f32⟩
  | .local _ .vmem, ⟨11, _⟩ => ⟨S1x128, .f32⟩
  | .local _ .vmem, ⟨12, _⟩ => ⟨S256x128, .f32⟩
  | .local _ .vmem, ⟨13, _⟩ => ⟨S1x128, .f32⟩
  | .local _ .vmem, ⟨14, _⟩ => ⟨S4x128x256, .f32⟩
  | .local _ .vmem, ⟨15, _⟩ => ⟨S4x128x256, .f32⟩
  | _, _ => ⟨S4x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_v0_0 : Ref sig .tc := ⟨.hbm, 18, rfl⟩
abbrev main_v0_1 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := .none

abbrev stage0_0 : Fin 1 → Memref sig .tc .vmem S4x128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S256x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S4x128x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S4x128x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== ReferenceIdeal.lean ====
abbrev S4x128x256 : Shape := ⟨3, ![4, 128, 256]⟩
abbrev S128x512 : Shape := ⟨2, ![128, 512]⟩
abbrev S4x128 : Shape := ⟨2, ![4, 128]⟩
abbrev S128 : Shape := ⟨1, ![128]⟩
abbrev S256x128 : Shape := ⟨2, ![256, 128]⟩
abbrev S4x128x512 : Shape := ⟨3, ![4, 128, 512]⟩
abbrev S4x512x128 : Shape := ⟨3, ![4, 512, 128]⟩
abbrev S512x512 : Shape := ⟨2, ![512, 512]⟩
abbrev S_ : Shape := ⟨0, ![]⟩
abbrev S4x512x512 : Shape := ⟨3, ![4, 512, 512]⟩
abbrev S4x512x4x128 : Shape := ⟨4, ![4, 512, 4, 128]⟩
abbrev S1x1x4x128 : Shape := ⟨4, ![1, 1, 4, 128]⟩
abbrev S4x512x4 : Shape := ⟨3, ![4, 512, 4]⟩
abbrev S4x512x1x4 : Shape := ⟨4, ![4, 512, 1, 4]⟩
abbrev S4x1x512x4 : Shape := ⟨4, ![4, 1, 512, 4]⟩
abbrev S4x512x512x4 : Shape := ⟨4, ![4, 512, 512, 4]⟩
abbrev S1x512x512x1 : Shape := ⟨4, ![1, 512, 512, 1]⟩
abbrev S4x4x512x128 : Shape := ⟨4, ![4, 4, 512, 128]⟩
abbrev S1x1x128 : Shape := ⟨3, ![1, 1, 128]⟩
abbrev S4x512x256 : Shape := ⟨3, ![4, 512, 256]⟩

abbrev nBuf : Space → Nat
  | .hbm => 162
  | .vmem => 0
  | .smem => 0
  | _ => 0

abbrev hbmTy0_0 (i : Nat) : BufTy := match i % 128 with
  | 0 => ⟨S4x128x256, .f32⟩
  | 1 => ⟨S4x128x256, .f32⟩
  | 2 => ⟨S128x512, .f32⟩
  | 3 => ⟨S4x128, .f32⟩
  | 4 => ⟨S4x128, .f32⟩
  | 5 => ⟨S128, .f32⟩
  | 6 => ⟨S256x128, .f32⟩
  | 7 => ⟨S128, .f32⟩
  | 8 => ⟨S128x512, .f32⟩
  | 9 => ⟨S4x128, .f32⟩
  | 10 => ⟨S4x128, .f32⟩
  | 11 => ⟨S128, .f32⟩
  | 12 => ⟨S256x128, .f32⟩
  | 13 => ⟨S128, .f32⟩
  | 14 => ⟨S4x128x512, .f32⟩
  | 15 => ⟨S4x512x128, .f32⟩
  | 16 => ⟨S512x512, .i32⟩
  | 17 => ⟨S512x512, .i32⟩
  | 18 => ⟨S_, .i32⟩
  | 19 => ⟨S512x512, .i32⟩
  | 20 => ⟨S512x512, .i1⟩
  | 21 => ⟨S_, .i32⟩
  | 22 => ⟨S512x512, .i32⟩
  | 23 => ⟨S512x512, .i1⟩
  | 24 => ⟨S512x512, .i1⟩
  | 25 => ⟨S4x512x512, .f32⟩
  | 26 => ⟨S4x512x4x128, .f32⟩
  | 27 => ⟨S1x1x4x128, .f32⟩
  | 28 => ⟨S4x512x4x128, .f32⟩
  | 29 => ⟨S4x512x4x128, .f32⟩
  | 30 => ⟨S_, .f32⟩
  | 31 => ⟨S4x512x4, .f32⟩
  | 32 => ⟨S1x1x4x128, .f32⟩
  | 33 => ⟨S4x512x4x128, .f32⟩
  | 34 => ⟨S4x512x4x128, .f32⟩
  | 35 => ⟨S_, .f32⟩
  | 36 => ⟨S4x512x4, .f32⟩
  | 37 => ⟨S4x512x1x4, .f32⟩
  | 38 => ⟨S4x1x512x4, .f32⟩
  | 39 => ⟨S4x512x512x4, .f32⟩
  | 40 => ⟨S4x512x512x4, .f32⟩
  | 41 => ⟨S4x512x512x4, .f32⟩
  | 42 => ⟨S_, .f32⟩
  | 43 => ⟨S_, .f32⟩
  | 44 => ⟨S4x512x512x4, .f32⟩
  | 45 => ⟨S4x512x512x4, .i1⟩
  | 46 => ⟨S_, .f32⟩
  | 47 => ⟨S4x512x512x4, .f32⟩
  | 48 => ⟨S4x512x512x4, .f32⟩
  | 49 => ⟨S4x512x512x4, .f32⟩
  | 50 => ⟨S1x512x512x1, .i1⟩
  | 51 => ⟨S_, .f32⟩
  | 52 => ⟨S_, .f32⟩
  | 53 => ⟨S4x512x512x4, .i1⟩
  | 54 => ⟨S4x512x512x4, .f32⟩
  | 55 => ⟨S4x512x512x4, .f32⟩
  | 56 => ⟨S_, .f32⟩
  | 57 => ⟨S4x512x4, .f32⟩
  | 58 => ⟨S4x1x512x4, .f32⟩
  | 59 => ⟨S4x512x512x4, .f32⟩
  | 60 => ⟨S4x512x512x4, .f32⟩
  | 61 => ⟨S4x512x512x4, .f32⟩
  | 62 => ⟨S_, .f32⟩
  | 63 => ⟨S4x512x4, .f32⟩
  | 64 => ⟨S4x1x512x4, .f32⟩
  | 65 => ⟨S4x512x512x4, .f32⟩
  | 66 => ⟨S4x512x512x4, .f32⟩
  | 67 => ⟨S4x4x512x128, .f32⟩
  | 68 => ⟨S4x512x4x128, .f32⟩
  | 69 => ⟨S_, .f32⟩
  | 70 => ⟨S4x512x128, .f32⟩
  | 71 => ⟨S_, .f32⟩
  | 72 => ⟨S4x512x128, .f32⟩
  | 73 => ⟨S4x512x128, .f32⟩
  | 74 => ⟨S1x1x128, .f32⟩
  | 75 => ⟨S4x512x128, .f32⟩
  | 76 => ⟨S4x512x128, .f32⟩
  | 77 => ⟨S_, .f32⟩
  | 78 => ⟨S4x512x128, .f32⟩
  | 79 => ⟨S4x512x128, .f32⟩
  | 80 => ⟨S4x512x256, .f32⟩
  | 81 => ⟨S4x512x128, .f32⟩
  | 82 => ⟨S1x1x128, .f32⟩
  | 83 => ⟨S4x512x128, .f32⟩
  | 84 => ⟨S4x512x128, .f32⟩
  | 85 => ⟨S4x512x128, .f32⟩
  | 86 => ⟨S512x512, .i32⟩
  | 87 => ⟨S512x512, .i32⟩
  | 88 => ⟨S_, .i32⟩
  | 89 => ⟨S512x512, .i32⟩
  | 90 => ⟨S512x512, .i1⟩
  | 91 => ⟨S_, .i32⟩
  | 92 => ⟨S512x512, .i32⟩
  | 93 => ⟨S512x512, .i1⟩
  | 94 => ⟨S512x512, .i1⟩
  | 95 => ⟨S512x512, .i1⟩
  | 96 => ⟨S512x512, .i1⟩
  | 97 => ⟨S512x512, .i1⟩
  | 98 => ⟨S4x512x512, .f32⟩
  | 99 => ⟨S4x512x4x128, .f32⟩
  | 100 => ⟨S1x1x4x128, .f32⟩
  | 101 => ⟨S4x512x4x128, .f32⟩
  | 102 => ⟨S4x512x4x128, .f32⟩
  | 103 => ⟨S_, .f32⟩
  | 104 => ⟨S4x512x4, .f32⟩
  | 105 => ⟨S1x1x4x128, .f32⟩
  | 106 => ⟨S4x512x4x128, .f32⟩
  | 107 => ⟨S4x512x4x128, .f32⟩
  | 108 => ⟨S_, .f32⟩
  | 109 => ⟨S4x512x4, .f32⟩
  | 110 => ⟨S4x512x1x4, .f32⟩
  | 111 => ⟨S4x1x512x4, .f32⟩
  | 112 => ⟨S4x512x512x4, .f32⟩
  | 113 => ⟨S4x512x512x4, .f32⟩
  | 114 => ⟨S4x512x512x4, .f32⟩
  | 115 => ⟨S_, .f32⟩
  | 116 => ⟨S_, .f32⟩
  | 117 => ⟨S4x512x512x4, .f32⟩
  | 118 => ⟨S4x512x512x4, .i1⟩
  | 119 => ⟨S_, .f32⟩
  | 120 => ⟨S4x512x512x4, .f32⟩
  | 121 => ⟨S4x512x512x4, .f32⟩
  | 122 => ⟨S4x512x512x4, .f32⟩
  | 123 => ⟨S1x512x512x1, .i1⟩
  | 124 => ⟨S_, .f32⟩
  | 125 => ⟨S_, .f32⟩
  | 126 => ⟨S4x512x512x4, .i1⟩
  | 127 => ⟨S4x512x512x4, .f32⟩
  | _ => ⟨S4x128x256, .f32⟩

abbrev hbmTy0_1 (i : Nat) : BufTy := match i % 128 with
  | 0 => ⟨S4x512x512x4, .f32⟩
  | 1 => ⟨S_, .f32⟩
  | 2 => ⟨S4x512x4, .f32⟩
  | 3 => ⟨S4x1x512x4, .f32⟩
  | 4 => ⟨S4x512x512x4, .f32⟩
  | 5 => ⟨S4x512x512x4, .f32⟩
  | 6 => ⟨S4x512x512x4, .f32⟩
  | 7 => ⟨S_, .f32⟩
  | 8 => ⟨S4x512x4, .f32⟩
  | 9 => ⟨S4x1x512x4, .f32⟩
  | 10 => ⟨S4x512x512x4, .f32⟩
  | 11 => ⟨S4x512x512x4, .f32⟩
  | 12 => ⟨S4x4x512x128, .f32⟩
  | 13 => ⟨S4x512x4x128, .f32⟩
  | 14 => ⟨S_, .f32⟩
  | 15 => ⟨S4x512x128, .f32⟩
  | 16 => ⟨S_, .f32⟩
  | 17 => ⟨S4x512x128, .f32⟩
  | 18 => ⟨S4x512x128, .f32⟩
  | 19 => ⟨S1x1x128, .f32⟩
  | 20 => ⟨S4x512x128, .f32⟩
  | 21 => ⟨S4x512x128, .f32⟩
  | 22 => ⟨S_, .f32⟩
  | 23 => ⟨S4x512x128, .f32⟩
  | 24 => ⟨S4x512x128, .f32⟩
  | 25 => ⟨S4x512x256, .f32⟩
  | 26 => ⟨S4x512x128, .f32⟩
  | 27 => ⟨S1x1x128, .f32⟩
  | 28 => ⟨S4x512x128, .f32⟩
  | 29 => ⟨S4x512x128, .f32⟩
  | 30 => ⟨S4x512x128, .f32⟩
  | 31 => ⟨S4x128x512, .f32⟩
  | 32 => ⟨S4x128x256, .f32⟩
  | 33 => ⟨S4x128x256, .f32⟩
  | _ => ⟨S4x128x256, .f32⟩

abbrev hbmTy (i : Nat) : BufTy := match i / 128 with
  | 0 => hbmTy0_0 i
  | 1 => hbmTy0_1 i
  | _ => ⟨S4x128x256, .f32⟩

abbrev bufTy : (tb : Table) → Fin (tcTables nBuf tb) → BufTy
  | .hbm, ⟨i, _⟩ => hbmTy i
  | _, _ => ⟨S4x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_1 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_2 : Ref sig .tc := ⟨.hbm, 42, rfl⟩
abbrev main_call0_cst : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_v24 : Ref sig .tc := ⟨.hbm, 49, rfl⟩
abbrev main_v25 : Ref sig .tc := ⟨.hbm, 50, rfl⟩
abbrev main_cst_3 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v26 : Ref sig .tc := ⟨.hbm, 55, rfl⟩
abbrev main_cst_4 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_cst_5 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_cst_6 : Ref sig .tc := ⟨.hbm, 69, rfl⟩
abbrev main_v38 : Ref sig .tc := ⟨.hbm, 70, rfl⟩
abbrev main_cst_7 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_call2_cst : Ref sig .tc := ⟨.hbm, 77, rfl⟩
abbrev main_call2_v0 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_c_8 : Ref sig .tc := ⟨.hbm, 88, rfl⟩
abbrev main_v53 : Ref sig .tc := ⟨.hbm, 89, rfl⟩
abbrev main_v54 : Ref sig .tc := ⟨.hbm, 90, rfl⟩
abbrev main_c_9 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_cst_10 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_11 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_cst_12 : Ref sig .tc := ⟨.hbm, 115, rfl⟩
abbrev main_call3_cst : Ref sig .tc := ⟨.hbm, 116, rfl⟩
abbrev main_call3_v0 : Ref sig .tc := ⟨.hbm, 117, rfl⟩
abbrev main_call3_v1 : Ref sig .tc := ⟨.hbm, 118, rfl⟩
abbrev main_call3_v2 : Ref sig .tc := ⟨.hbm, 119, rfl⟩
abbrev main_call3_v3 : Ref sig .tc := ⟨.hbm, 120, rfl⟩
abbrev main_call3_v4 : Ref sig .tc := ⟨.hbm, 121, rfl⟩
abbrev main_v76 : Ref sig .tc := ⟨.hbm, 122, rfl⟩
abbrev main_v77 : Ref sig .tc := ⟨.hbm, 123, rfl⟩
abbrev main_cst_13 : Ref sig .tc := ⟨.hbm, 124, rfl⟩
abbrev main_call4_v0 : Ref sig .tc := ⟨.hbm, 125, rfl⟩
abbrev main_call4_v1 : Ref sig .tc := ⟨.hbm, 126, rfl⟩
abbrev main_call4_v2 : Ref sig .tc := ⟨.hbm, 127, rfl⟩
abbrev main_v78 : Ref sig .tc := ⟨.hbm, 128, rfl⟩
abbrev main_cst_14 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_cst_15 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_cst_16 : Ref sig .tc := ⟨.hbm, 142, rfl⟩
abbrev main_v90 : Ref sig .tc := ⟨.hbm, 143, rfl⟩
abbrev main_cst_17 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_call5_cst : Ref sig .tc := ⟨.hbm, 150, rfl⟩
abbrev main_call5_v0 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩

abbrev nD : Nat := 1
abbrev τ : Topo := Topo.v7x

variable {F : FTy → Type} [FloatOps F]
-- ==== Proof.Blocks.lean ====
/- The kernel's value, batch by batch, told by the steps of the network instead of by the printed operations: a layer of
   attention over the nodes of one point set (`selfLayer`) and over those of the other set with a self loop
   (`crossLayer`), both on the vectors the kernel keeps them in. The theorems say that what the kernel stores is that:
   the two written arrays are put together from four blocks (`out_first`, `out_second`), one for each batch. -/
module

public import proofs.«01_k».proof.Proof.Gen.KernelIdeal.Frame

@[expose] public section

noncomputable section

namespace Cert.Gat

open Idealize.ShloMosaic Cert.KernelIdeal Cert.KernelIdeal.Gen

variable {F : FTy → Type} [FloatOps F]

/-- A block of the input, features by nodes, turned to nodes by features. -/
def nodes (v : FVec F S1x128x256 .f32) : FVec F S256x128 .f32 :=
  transpose S256x128 [1, 0] (shapeCast S128x256 v shapeCasts_S1x128x256_S128x256) transposes_S128x256_p1_0_S256x128

/-- The projection of every node onto the features of the four heads. -/
def proj (x : FVec F S256x128 .f32) (w : FVec F S128x512 .f32) : FVec F S256x512 .f32 :=
  matmul dot_S256x128_S128x512_S256x512_1_0_0_1_n_n none x w (constant S256x512 .f32 0x00000000#32)

/-- The features of one head: 128 columns of the projection, from column `o` on. -/
def head (o : Nat) (w : S256x512.Slices ![0, o] S256x128) (h : FVec F S256x512 .f32) : FVec F S256x128 .f32 :=
  extractStridedSlice S256x128 ![0, o] h w

/-- The logits of the sources, as a row. -/
def srcRow (a : FVec F S1x128 .f32) (hs : FVec F S256x128 .f32) : FVec F S1x256 .f32 :=
  matmul dot_S1x128_S256x128_S1x256_1_1_0_0_n_n none a hs (constant S1x256 .f32 0x00000000#32)

/-- A column of logits, one of each node. -/
def logitCol (h : FVec F S256x128 .f32) (a : FVec F S1x128 .f32) : FVec F S256x1 .f32 :=
  matmul dot_S256x128_S1x128_S256x1_1_1_0_0_n_n none h a (constant S256x1 .f32 0x00000000#32)

/-- The slope 0.2 times a vector. -/
def slope {s : Shape} (v : FVec F s .f32) : FVec F s .f32 :=
  mulf (broadcast s (Scalar.ofBits .f32 0x3E4CCCCD#32)) v

/-- The unnormalised weights of every source at every destination, from the two vectors of logits. -/
def weights (row : FVec F S1x256 .f32) (col : FVec F S256x1 .f32) : FVec F S256x256 .f32 :=
  maximumf
    (mulf (broadcastTo S256x256 (exp row) broadcasts_S1x256_S256x256) (broadcastTo S256x256 (exp col) broadcasts_S256x1_S256x256))
    (mulf (broadcastTo S256x256 (exp (slope row)) broadcasts_S1x256_S256x256)
      (broadcastTo S256x256 (exp (slope col)) broadcasts_S256x1_S256x256))

/-- The sum of the weights at each destination. -/
def total (e : FVec F S256x256 .f32) : FVec F S256x1 .f32 :=
  shapeCast S256x1 (multiReduction .add [1] S256 e 0x00000000#32 reduces_S256x256_S256 (.inl rfl) rfl) shapeCasts_S256_S256x1

/-- The weighted sum of the sources' features at each destination. -/
def mix (e : FVec F S256x256 .f32) (hs : FVec F S256x128 .f32) : FVec F S256x128 .f32 :=
  matmul dot_S256x256_S256x128_S256x128_1_0_0_1_n_n none e hs (constant S256x128 .f32 0x00000000#32)

/-- One head of the attention of a set over itself, added to what the earlier heads gave. -/
def selfHead (acc hs : FVec F S256x128 .f32) (s d : FVec F S1x128 .f32) : FVec F S256x128 .f32 :=
  addf acc (divf (mix (weights (srcRow s hs) (logitCol hs d)) hs)
    (broadcastTo S256x128 (total (weights (srcRow s hs) (logitCol hs d))) broadcasts_S256x1_S256x128))

/-- The weight of a destination's self loop. -/
def loopWeight (hd : FVec F S256x128 .f32) (s d : FVec F S1x128 .f32) : FVec F S256x1 .f32 :=
  exp (maximumf (addf (logitCol hd s) (logitCol hd d)) (slope (addf (logitCol hd s) (logitCol hd d))))

/-- One head of the attention of the set `hd` over the set `hs` and its own self loops, added to what the earlier heads
    gave. -/
def crossHead (acc hs hd : FVec F S256x128 .f32) (s d : FVec F S1x128 .f32) : FVec F S256x128 .f32 :=
  addf acc (divf
    (addf (mix (weights (srcRow s hs) (logitCol hd d)) hs)
      (mulf (broadcastTo S256x128 (loopWeight hd s d) broadcasts_S256x1_S256x128) hd))
    (broadcastTo S256x128 (addf (total (weights (srcRow s hs) (logitCol hd d))) (loopWeight hd s d)) broadcasts_S256x1_S256x128))

/-- What the heads are added to. -/
def start : FVec F S256x128 .f32 := broadcast S256x128 (Scalar.ofBits .f32 0x00000000#32)

/-- The four heads of a set's attention over itself, summed. -/
def selfHeads (h : FVec F S256x512 .f32) (s0 s1 s2 s3 d0 d1 d2 d3 : FVec F S1x128 .f32) : FVec F S256x128 .f32 :=
  selfHead (selfHead (selfHead (selfHead start (head 0 slices_S256x512_o0_0_S256x128 h) s0 d0)
    (head 128 slices_S256x512_o0_128_S256x128 h) s1 d1) (head 256 slices_S256x512_o0_256_S256x128 h) s2 d2)
    (head 384 slices_S256x512_o0_384_S256x128 h) s3 d3

/-- The four heads of the attention of the set `h` over the set `g` and its own self loops, summed. -/
def crossHeads (g h : FVec F S256x512 .f32) (s0 s1 s2 s3 d0 d1 d2 d3 : FVec F S1x128 .f32) : FVec F S256x128 .f32 :=
  crossHead (crossHead (crossHead (crossHead start
    (head 0 slices_S256x512_o0_0_S256x128 g) (head 0 slices_S256x512_o0_0_S256x128 h) s0 d0)
    (head 128 slices_S256x512_o0_128_S256x128 g) (head 128 slices_S256x512_o0_128_S256x128 h) s1 d1)
    (head 256 slices_S256x512_o0_256_S256x128 g) (head 256 slices_S256x512_o0_256_S256x128 h) s2 d2)
    (head 384 slices_S256x512_o0_384_S256x128 g) (head 384 slices_S256x512_o0_384_S256x128 h) s3 d3

/-- A bias vector given to every node. -/
def spread (b : FVec F S1x128 .f32) : FVec F S256x128 .f32 :=
  broadcastTo S256x128 (shapeCast S1x128 b shapeCasts_S1x128_S1x128) broadcasts_S1x128_S256x128

/-- The message of every node: the mean over the heads, the bias, and the rectifier. -/
def message (acc : FVec F S256x128 .f32) (b : FVec F S1x128 .f32) : FVec F S256x128 .f32 :=
  maximumf (addf (mulf acc (broadcast S256x128 (Scalar.ofBits .f32 0x3E800000#32))) (spread b))
    (broadcast S256x128 (Scalar.ofBits .f32 0x00000000#32))

/-- The residual update of every node by its features and its message. -/
def update (x msg : FVec F S256x128 .f32) (w : FVec F S256x128 .f32) (b : FVec F S1x128 .f32) : FVec F S256x128 .f32 :=
  addf x (addf (addf
    (matmul dot_S256x128_S128x128_S256x128_1_0_0_1_n_n none x
      (extractStridedSlice S128x128 ![0, 0] w slices_S256x128_o0_0_S128x128) (constant S256x128 .f32 0x00000000#32))
    (matmul dot_S256x128_S128x128_S256x128_1_0_0_1_n_n none msg
      (extractStridedSlice S128x128 ![128, 0] w slices_S256x128_o128_0_S128x128) (constant S256x128 .f32 0x00000000#32)))
    (spread b))

/-- The first layer on the nodes of one set. -/
def selfLayer (x : FVec F S256x128 .f32) (w : FVec F S128x512 .f32) (s0 s1 s2 s3 d0 d1 d2 d3 b : FVec F S1x128 .f32)
    (mw : FVec F S256x128 .f32) (mb : FVec F S1x128 .f32) : FVec F S256x128 .f32 :=
  update x (message (selfHeads (proj x w) s0 s1 s2 s3 d0 d1 d2 d3) b) mw mb

/-- The second layer on the nodes `x` of one set, those of the other set being `y`. -/
def crossLayer (y x : FVec F S256x128 .f32) (w : FVec F S128x512 .f32) (s0 s1 s2 s3 d0 d1 d2 d3 b : FVec F S1x128 .f32)
    (mw : FVec F S256x128 .f32) (mb : FVec F S1x128 .f32) : FVec F S256x128 .f32 :=
  update x (message (crossHeads (proj y w) (proj x w) s0 s1 s2 s3 d0 d1 d2 d3) b) mw mb

/-- Nodes by features turned back to a block of the output, features by nodes. -/
def block (x : FVec F S256x128 .f32) : FVec F S1x128x256 .f32 :=
  shapeCast S1x128x256 (transpose S128x256 [1, 0] x transposes_S256x128_p1_0_S128x256) shapeCasts_S128x256_S1x128x256

variable (x0 : Vec F S4x128x256 .f32) (x1 : Vec F S4x128x256 .f32) (x2 : Vec F S128x512 .f32) (x3 : Vec F S4x128 .f32)
  (x4 : Vec F S4x128 .f32) (x5 : Vec F S1x128 .f32) (x6 : Vec F S256x128 .f32) (x7 : Vec F S1x128 .f32)
  (x8 : Vec F S128x512 .f32) (x9 : Vec F S4x128 .f32) (x10 : Vec F S4x128 .f32) (x11 : Vec F S1x128 .f32)
  (x12 : Vec F S256x128 .f32) (x13 : Vec F S1x128 .f32)

/-- The first layer with the kernel's parameters, on a block of either input. -/
def first (v : FVec F S1x128x256 .f32) : FVec F S256x128 .f32 :=
  selfLayer (nodes v) (View.ld x2 r0_1) (View.ld x3 r0_3) (View.ld x3 r0_4) (View.ld x3 r0_5) (View.ld x3 r0_6)
    (View.ld x4 r0_3) (View.ld x4 r0_4) (View.ld x4 r0_5) (View.ld x4 r0_6) (View.ld x5 r0_7) (View.ld x6 r0_2) (View.ld x7 r0_7)

/-- The second layer with the kernel's parameters, from what the first left of the two sets. -/
def second (y x : FVec F S256x128 .f32) : FVec F S256x128 .f32 :=
  crossLayer y x (View.ld x8 r0_1) (View.ld x9 r0_3) (View.ld x9 r0_4) (View.ld x9 r0_5) (View.ld x9 r0_6)
    (View.ld x10 r0_3) (View.ld x10 r0_4) (View.ld x10 r0_5) (View.ld x10 r0_6) (View.ld x11 r0_7) (View.ld x12 r0_2)
    (View.ld x13 r0_7)

/-- Both layers on one batch: the block written for the set `v`, the block of the other set being `u`. -/
def stored (u v : FVec F S1x128x256 .f32) : FVec F S1x128x256 .f32 :=
  block (second x8 x9 x10 x11 x12 x13 (first x2 x3 x4 x5 x6 x7 u) (first x2 x3 x4 x5 x6 x7 v))

/-- The first result is four blocks, one of each batch: both layers on that batch of the two inputs, read off the first set. -/
theorem out_first : out0_14 x0 x1 x2 x3 x4 x5 x6 x7 x8 x9 x10 x11 x12 x13 = View.canon
    [⟨r0_10, stored x2 x3 x4 x5 x6 x7 x8 x9 x10 x11 x12 x13 (View.ld x1 r0_10) (View.ld x0 r0_10)⟩,
     ⟨r0_9, stored x2 x3 x4 x5 x6 x7 x8 x9 x10 x11 x12 x13 (View.ld x1 r0_9) (View.ld x0 r0_9)⟩,
     ⟨r0_8, stored x2 x3 x4 x5 x6 x7 x8 x9 x10 x11 x12 x13 (View.ld x1 r0_8) (View.ld x0 r0_8)⟩,
     ⟨r0_0, stored x2 x3 x4 x5 x6 x7 x8 x9 x10 x11 x12 x13 (View.ld x1 r0_0) (View.ld x0 r0_0)⟩] := rfl

/-- The second result likewise, read off the second set. -/
theorem out_second : out0_15 x0 x1 x2 x3 x4 x5 x6 x7 x8 x9 x10 x11 x12 x13 = View.canon
    [⟨r0_10, stored x2 x3 x4 x5 x6 x7 x8 x9 x10 x11 x12 x13 (View.ld x0 r0_10) (View.ld x1 r0_10)⟩,
     ⟨r0_9, stored x2 x3 x4 x5 x6 x7 x8 x9 x10 x11 x12 x13 (View.ld x0 r0_9) (View.ld x1 r0_9)⟩,
     ⟨r0_8, stored x2 x3 x4 x5 x6 x7 x8 x9 x10 x11 x12 x13 (View.ld x0 r0_8) (View.ld x1 r0_8)⟩,
     ⟨r0_0, stored x2 x3 x4 x5 x6 x7 x8 x9 x10 x11 x12 x13 (View.ld x0 r0_0) (View.ld x1 r0_0)⟩] := rfl

end Cert.Gat

end
-- ==== Proof.Attention.lean ====
/- The mathematics of the network, apart from any program: attention as a quotient of sums over the reals, and the two ways
   of computing it that the kernel and the reference take. The kernel multiplies exponentials of the two logits and takes
   the larger of two products; the reference takes the exponential of the rectified sum of the logits, shifted by the
   largest one over the edges. Both are the same quotient where every number is finite. -/
module

public import Idealize.ShloMosaic.PureOps.Ideal.Laws
public import Mathlib.Algebra.BigOperators.Fin
public import Mathlib.Tactic.NormNum

@[expose] public section

noncomputable section

namespace Cert.Gat

open Idealize.ShloMosaic

/-! ## The literals -/

/-- The slope of the leaky rectifier: the number the float word of 0.2 stands for. -/
def tilt : ℝ := 13421773 / 67108864

/-- The kernel's slope literal is `tilt`. -/
theorem tilt_word : Ideal.ofBits .f32 0x3E4CCCCD#32 = (tilt : EReal) := by
  simp [Ideal.ofBits, Ideal.ieee, tilt, -EReal.coe_mul]
  norm_num

/-- The literal of one over the number of heads is 1/4. -/
theorem quarter_word : Ideal.ofBits .f32 0x3E800000#32 = ((1 / 4 : ℝ) : EReal) := by
  simp [Ideal.ofBits, Ideal.ieee, -EReal.coe_mul]
  norm_num

/-- The literal of the number of heads is 4. -/
theorem four_word : Ideal.ofBits .f32 0x40800000#32 = ((4 : ℝ) : EReal) := by
  simp [Ideal.ofBits, Ideal.ieee, -EReal.coe_mul]
  norm_num

/-- The word of minus infinity is `⊥`. -/
theorem bot_word : Ideal.ofBits .f32 0xFF800000#32 = ⊥ := by
  simp [Ideal.ofBits, Ideal.ieee]

/-- The word of infinity is `⊤`. -/
theorem top_word : Ideal.ofBits .f32 0x7F800000#32 = ⊤ := by
  simp [Ideal.ofBits, Ideal.ieee]

/-- The word of zero is 0. -/
theorem zero_word : Ideal.ofBits .f32 0x00000000#32 = 0 := Ideal.ofBits_zero_f32

/-! ## Attention over the reals -/

/-- The leaky rectifier. -/
def leaky (x : ℝ) : ℝ := max x (tilt * x)

/-- The mean of `g` by the weights `e`. -/
def attend {ι : Type} [Fintype ι] (e g : ι → ℝ) : ℝ := (∑ i, e i * g i) / ∑ i, e i

/-- The exponential of the rectified sum of two logits is the larger of two products of exponentials. -/
theorem exp_leaky (r c : ℝ) :
    Real.exp (leaky (r + c)) = max (Real.exp r * Real.exp c) (Real.exp (tilt * r) * Real.exp (tilt * c)) := by
  rw [leaky, Real.exp_monotone.map_max, ← Real.exp_add, ← Real.exp_add, mul_add]

/-- The rectifier written by cases on the sign. -/
theorem leaky_cases (x : ℝ) : leaky x = if 0 ≤ x then x else tilt * x := by
  have h0 : (0 : ℝ) < tilt := by norm_num [tilt]
  have h1 : tilt < 1 := by norm_num [tilt]
  unfold leaky
  split
  · exact max_eq_left (by nlinarith)
  · exact max_eq_right (by nlinarith)

variable {ι : Type} [Fintype ι]

/-- A finite sum of real numbers is one number. -/
theorem coe_sum (f : ι → ℝ) : ∑ i, (f i : EReal) = ((∑ i, f i : ℝ) : EReal) :=
  (map_sum (⟨⟨Real.toEReal, EReal.coe_zero⟩, EReal.coe_add⟩ : ℝ →+ EReal) f Finset.univ).symm

/-- The larger of two real numbers is a real number. -/
theorem coe_max (x y : ℝ) : max (x : EReal) (y : EReal) = ((max x y : ℝ) : EReal) :=
  (EReal.coe_strictMono.monotone.map_max).symm

/-- The quotient of two real numbers. -/
theorem div_coe_coe (x y : ℝ) (h : y ≠ 0) : Ideal.div (x : EReal) (y : EReal) = ((x / y : ℝ) : EReal) := by
  rw [Ideal.div_coe h, ← EReal.coe_mul, mul_one_div]

/-- The kernel's weight of a source with logit `r` at a destination with logit `c`. -/
def weight (r c : EReal) : EReal :=
  max (Ideal.exp r * Ideal.exp c)
    (Ideal.exp (Ideal.ofBits .f32 0x3E4CCCCD#32 * r) * Ideal.exp (Ideal.ofBits .f32 0x3E4CCCCD#32 * c))

/-- The kernel's weight of real logits is the exponential of the leaky logit. -/
theorem weight_coe (r c : ℝ) : weight r c = ((Real.exp (leaky (r + c)) : ℝ) : EReal) := by
  rw [weight, tilt_word, ← EReal.coe_mul, ← EReal.coe_mul]
  simp only [Ideal.exp_coe]
  rw [← EReal.coe_mul, ← EReal.coe_mul, coe_max, exp_leaky]

/-- The kernel's attention of a set over itself. -/
theorem self_attention [Nonempty ι] (r : ι → ℝ) (c : ℝ) (g : ι → ℝ) :
    Ideal.div (∑ j, weight (r j) c * (g j : EReal)) (∑ j, weight (r j) c)
      = ((attend (fun j => Real.exp (leaky (r j + c))) g : ℝ) : EReal) := by
  simp only [weight_coe, ← EReal.coe_mul, coe_sum]
  exact div_coe_coe _ _ (Finset.sum_pos (fun j _ => Real.exp_pos _) Finset.univ_nonempty).ne'

/-- The weight the kernel gives a self loop whose logits sum to `s`. -/
theorem loop_weight (s : ℝ) : Ideal.exp (max (s : EReal) (Ideal.ofBits .f32 0x3E4CCCCD#32 * (s : EReal)))
    = ((Real.exp (leaky s) : ℝ) : EReal) := by
  rw [tilt_word, ← EReal.coe_mul, coe_max]
  rfl

/-- The attention over the sources `ι` and one more, the destination itself, of weight `l` and value `v`. -/
def attendLoop (e g : ι → ℝ) (l v : ℝ) : ℝ := ((∑ i, e i * g i) + l * v) / ((∑ i, e i) + l)

/-- The kernel's attention of a set over the other one and the destination's self loop. -/
theorem cross_attention (r : ι → ℝ) (c : ℝ) (g : ι → ℝ) (s v : ℝ) :
    Ideal.div
        ((∑ j, weight (r j) c * (g j : EReal))
          + Ideal.exp (max (s : EReal) (Ideal.ofBits .f32 0x3E4CCCCD#32 * (s : EReal))) * (v : EReal))
        ((∑ j, weight (r j) c) + Ideal.exp (max (s : EReal) (Ideal.ofBits .f32 0x3E4CCCCD#32 * (s : EReal))))
      = ((attendLoop (fun j => Real.exp (leaky (r j + c))) g (Real.exp (leaky s)) v : ℝ) : EReal) := by
  simp only [weight_coe, loop_weight, ← EReal.coe_mul, coe_sum, ← EReal.coe_add]
  exact div_coe_coe _ _ (add_pos_of_nonneg_of_pos (Finset.sum_nonneg fun j _ => (Real.exp_pos _).le) (Real.exp_pos _)).ne'

/-- The reference's logits: those of the edges, and bottom where there is no edge. -/
def masked (a : ι → Prop) [DecidablePred a] (l : ι → ℝ) (i : ι) : EReal := if a i then (l i : EReal) else ⊥

/-- The largest of the reference's logits is a number, where there is an edge. -/
theorem peak_real (a : ι → Prop) [DecidablePred a] (l : ι → ℝ) (i₀ : ι) (h₀ : a i₀) :
    ∃ μ : ℝ, Finset.univ.sup (masked a l) = (μ : EReal) := by
  obtain ⟨i, -, hi⟩ := Finset.exists_mem_eq_sup Finset.univ ⟨i₀, Finset.mem_univ _⟩ (masked a l)
  have hle : masked a l i₀ ≤ Finset.univ.sup (masked a l) := Finset.le_sup (Finset.mem_univ _)
  rw [hi] at hle ⊢
  by_cases h : a i
  · exact ⟨l i, if_pos h⟩
  · have e : masked a l i = ⊥ := if_neg h
    rw [e, masked, if_pos h₀] at hle
    exact absurd (le_bot_iff.mp hle) (EReal.coe_ne_bot _)

/-- **The softmax of the masked logits, shifted by their largest, applied to the values `g`**: the mean of `g` by the
    exponentials of the logits of the edges. -/
theorem softmax_attention (a : ι → Prop) [DecidablePred a] (l g : ι → ℝ) (i₀ : ι) (h₀ : a i₀) :
    ∑ i, Ideal.div (Ideal.exp (masked a l i - Finset.univ.sup (masked a l)))
          (∑ k, Ideal.exp (masked a l k - Finset.univ.sup (masked a l))) * (g i : EReal)
      = ((attend (fun i => if a i then Real.exp (l i) else 0) g : ℝ) : EReal) := by
  obtain ⟨μ, hμ⟩ := peak_real a l i₀ h₀
  have hE : ∀ i, Ideal.exp (masked a l i - (μ : EReal))
      = (((if a i then Real.exp (l i) else 0) * Real.exp (-μ) : ℝ) : EReal) := fun i => by
    unfold masked
    split
    · rw [← EReal.coe_sub, Ideal.exp_coe, sub_eq_add_neg, Real.exp_add]
    · rw [EReal.bot_sub, Ideal.exp_bot, zero_mul, EReal.coe_zero]
  have hpos : 0 < ∑ i, if a i then Real.exp (l i) else 0 :=
    Finset.sum_pos' (fun i _ => by split <;> [exact (Real.exp_pos _).le; exact le_rfl])
      ⟨i₀, Finset.mem_univ _, by rw [if_pos h₀]; exact Real.exp_pos _⟩
  have hq : Real.exp (-μ) ≠ 0 := (Real.exp_pos _).ne'
  simp only [hμ, hE, coe_sum, ← Finset.sum_mul]
  have hdiv : ∀ i, Ideal.div ((((if a i then Real.exp (l i) else 0) * Real.exp (-μ) : ℝ)) : EReal)
        (((∑ k, if a k then Real.exp (l k) else 0) * Real.exp (-μ) : ℝ) : EReal) * (g i : EReal)
      = (((if a i then Real.exp (l i) else 0) * g i / (∑ k, if a k then Real.exp (l k) else 0) : ℝ) : EReal) := fun i => by
    rw [div_coe_coe _ _ (mul_ne_zero hpos.ne' hq), ← EReal.coe_mul, mul_div_mul_right _ _ hq, div_mul_eq_mul_div]
  simp only [hdiv, coe_sum, attend, Finset.sum_div]

end Cert.Gat

end
-- ==== Proof.Network.lean ====
/- The two layers of the network over the reals: what both programs are shown to compute. The nodes of the two point sets
   are kept apart here as the kernel keeps them (`selfMean`, `crossMean`); `graphMean` is the same attention over all 512
   nodes along the edges of a graph, as the reference writes it, and `graphMean_same_lo` … `graphMean_across_hi` say that
   the two agree on the two graphs the network uses. -/
module

public import proofs.«01_k».proof.Proof.Attention

@[expose] public section

noncomputable section

namespace Cert.Gat

open Idealize.ShloMosaic

/-! ## Nodes, features, graphs -/

/-- A node of the first set among all nodes. -/
def lo (i : Fin 256) : Fin 512 := ⟨i.val, by omega⟩

/-- A node of the second set among all nodes. -/
def hi (i : Fin 256) : Fin 512 := ⟨256 + i.val, by omega⟩

/-- Feature `c` of head `k` among the columns of the projection. -/
def feat (k : Fin 4) (c : Fin 128) : Fin 512 := ⟨128 * k.val + c.val, by omega⟩

/-- A row of the upper half of the second weight matrix, which multiplies a node's features. -/
def upper (k : Fin 128) : Fin 256 := ⟨k.val, by omega⟩

/-- A row of the lower half, which multiplies a node's message. -/
def lower (k : Fin 128) : Fin 256 := ⟨128 + k.val, by omega⟩

/-- A sum over all nodes is a sum over either set. -/
theorem sum_nodes {M : Type} [AddCommMonoid M] (f : Fin 512 → M) : ∑ i, f i = ∑ i, f (lo i) + ∑ i, f (hi i) :=
  Fin.sum_univ_add (a := 256) (b := 256) f

/-- A sum over the rows of the MLP weight is a sum over either half. -/
theorem sum_rows {M : Type} [AddCommMonoid M] (f : Fin 256 → M) : ∑ i, f i = ∑ i, f (upper i) + ∑ i, f (lower i) :=
  Fin.sum_univ_add (a := 128) (b := 128) f

/-- The complete graph on each of the two sets, loops included. -/
def Same (i j : Fin 512) : Prop := i.val < 256 ↔ j.val < 256

/-- The complete bipartite graph between the two sets, and a loop at every node. -/
def Across (i j : Fin 512) : Prop := ¬ Same i j ∨ i = j

/-- It is decided by the two positions. -/
instance (i j : Fin 512) : Decidable (Same i j) := inferInstanceAs (Decidable (_ ↔ _))
/-- It is decided by the two positions. -/
instance (i j : Fin 512) : Decidable (Across i j) := inferInstanceAs (Decidable (_ ∨ _))

/-- Two nodes of the first set are in the same set. -/
theorem same_lo_lo (i j : Fin 256) : Same (lo i) (lo j) := by unfold Same lo; simp
/-- Two nodes of the second set are in the same set. -/
theorem same_hi_hi (i j : Fin 256) : Same (hi i) (hi j) := by unfold Same hi; simp
/-- A node of the first set isn't in the set of one of the second. -/
theorem not_same_lo_hi (i j : Fin 256) : ¬ Same (lo i) (hi j) := by unfold Same lo hi; simp
/-- A node of the second set isn't in the set of one of the first. -/
theorem not_same_hi_lo (i j : Fin 256) : ¬ Same (hi i) (lo j) := by unfold Same lo hi; simp

/-- Inside the first set only the self loops are edges across. -/
theorem across_lo_lo (i j : Fin 256) : Across (lo i) (lo j) ↔ i = j :=
  ⟨fun h => h.elim (fun h => absurd (same_lo_lo i j) h) (fun h => Fin.ext (Fin.mk.inj h)), fun h => .inr (congrArg lo h)⟩
/-- Inside the second set only the self loops are edges across. -/
theorem across_hi_hi (i j : Fin 256) : Across (hi i) (hi j) ↔ i = j :=
  ⟨fun h => h.elim (fun h => absurd (same_hi_hi i j) h) (fun h => Fin.ext (Nat.add_left_cancel (Fin.mk.inj h))),
    fun h => .inr (congrArg hi h)⟩
/-- Each node of the first set has an edge to each of the second. -/
theorem across_lo_hi (i j : Fin 256) : Across (lo i) (hi j) := .inl (not_same_lo_hi i j)
/-- Each node of the second set has an edge to each of the first. -/
theorem across_hi_lo (i j : Fin 256) : Across (hi i) (lo j) := .inl (not_same_hi_lo i j)

/-! ## A layer -/

/-- The projection of the nodes' features. -/
def project {n : Nat} (X : Fin n → Fin 128 → ℝ) (W : Fin 128 → Fin 512 → ℝ) (i : Fin n) (j : Fin 512) : ℝ :=
  ∑ k, X i k * W k j

/-- The logit of node `i` at head `k` for the attention vectors `A`. -/
def logit {n : Nat} (H : Fin n → Fin 512 → ℝ) (A : Fin 4 → Fin 128 → ℝ) (k : Fin 4) (i : Fin n) : ℝ :=
  ∑ c, H i (feat k c) * A k c

/-- Attention of a set over itself, averaged over the heads. -/
def selfMean (H : Fin 256 → Fin 512 → ℝ) (S D : Fin 4 → Fin 128 → ℝ) (n : Fin 256) (f : Fin 128) : ℝ :=
  (∑ k, attend (fun j => Real.exp (leaky (logit H S k j + logit H D k n))) (fun j => H j (feat k f))) * (1 / 4)

/-- Attention of the set `H` over the set `G` and its own loops, averaged over the heads. -/
def crossMean (G H : Fin 256 → Fin 512 → ℝ) (S D : Fin 4 → Fin 128 → ℝ) (n : Fin 256) (f : Fin 128) : ℝ :=
  (∑ k, attendLoop (fun j => Real.exp (leaky (logit G S k j + logit H D k n))) (fun j => G j (feat k f))
    (Real.exp (leaky (logit H S k n + logit H D k n))) (H n (feat k f))) * (1 / 4)

/-- Attention over all nodes along the edges of a graph, averaged over the heads. -/
def graphMean (adj : Fin 512 → Fin 512 → Prop) [∀ i j, Decidable (adj i j)] (H : Fin 512 → Fin 512 → ℝ)
    (S D : Fin 4 → Fin 128 → ℝ) (n : Fin 512) (f : Fin 128) : ℝ :=
  (∑ k, attend (fun i => if adj i n then Real.exp (leaky (logit H S k i + logit H D k n)) else 0)
    (fun i => H i (feat k f))) * (1 / 4)

variable (H : Fin 512 → Fin 512 → ℝ) (S D : Fin 4 → Fin 128 → ℝ) (n : Fin 256) (f : Fin 128)

/-- On the first set, the graph inside the sets is that set's attention over itself. -/
theorem graphMean_same_lo : graphMean Same H S D (lo n) f = selfMean (fun i => H (lo i)) S D n f := by
  simp only [graphMean, selfMean, attend, sum_nodes, if_pos (same_lo_lo _ _), if_neg (not_same_hi_lo _ _), zero_mul,
    Finset.sum_const_zero, add_zero]
  rfl

/-- On the second set, the graph inside the sets is that set's attention over itself. -/
theorem graphMean_same_hi : graphMean Same H S D (hi n) f = selfMean (fun i => H (hi i)) S D n f := by
  simp only [graphMean, selfMean, attend, sum_nodes, if_pos (same_hi_hi _ _), if_neg (not_same_lo_hi _ _), zero_mul,
    Finset.sum_const_zero, zero_add]
  rfl

/-- On the first set, the graph across is the attention over the second set and the node itself. -/
theorem graphMean_across_lo :
    graphMean Across H S D (lo n) f = crossMean (fun i => H (hi i)) (fun i => H (lo i)) S D n f := by
  simp only [graphMean, crossMean, attend, attendLoop, sum_nodes, if_pos (across_hi_lo _ _), across_lo_lo, ite_mul, zero_mul,
    Finset.sum_ite_eq', Finset.mem_univ, if_true, add_comm (Real.exp _ * _), add_comm (Real.exp _) (∑ _, _)]
  rfl

/-- On the second set, the graph across is the attention over the first set and the node itself. -/
theorem graphMean_across_hi :
    graphMean Across H S D (hi n) f = crossMean (fun i => H (lo i)) (fun i => H (hi i)) S D n f := by
  simp only [graphMean, crossMean, attend, attendLoop, sum_nodes, if_pos (across_lo_hi _ _), across_hi_hi, ite_mul, zero_mul,
    Finset.sum_ite_eq', Finset.mem_univ, if_true]
  rfl

/-- The residual update of a node with features `x` and averaged attention `m`. Its bias and second weights may be anything. -/
def renew (x m b : Fin 128 → EReal) (w : Fin 256 → Fin 128 → EReal) (v : Fin 128 → EReal) (f : Fin 128) : EReal :=
  x f + ((∑ k, x k * w (upper k) f + ∑ k, max (m k + b k) 0 * w (lower k) f) + v f)

/-- The same over the reals. -/
def renewReal (x m b : Fin 128 → ℝ) (w : Fin 256 → Fin 128 → ℝ) (v : Fin 128 → ℝ) (f : Fin 128) : ℝ :=
  x f + ((∑ k, x k * w (upper k) f + ∑ k, max (m k + b k) 0 * w (lower k) f) + v f)

/-- The update of real features by real messages is real. -/
theorem renew_coe (x m b : Fin 128 → ℝ) (w : Fin 256 → Fin 128 → ℝ) (v : Fin 128 → ℝ) (f : Fin 128) :
    renew (fun k => (x k : EReal)) (fun k => (m k : EReal)) (fun k => (b k : EReal)) (fun k j => (w k j : EReal))
      (fun k => (v k : EReal)) f = ((renewReal x m b w v f : ℝ) : EReal) := by
  unfold renew renewReal
  simp only [← EReal.coe_add, ← EReal.coe_zero, coe_max, ← EReal.coe_mul, coe_sum]

/-! ## The network -/

/-- The parameters read before the last softmax, as real numbers. -/
structure Params where
  /-- the first layer's projection -/
  W0 : Fin 128 → Fin 512 → ℝ
  /-- its attention vectors for the sources -/
  S0 : Fin 4 → Fin 128 → ℝ
  /-- and for the destinations -/
  D0 : Fin 4 → Fin 128 → ℝ
  /-- its bias -/
  b0 : Fin 128 → ℝ
  /-- its update's weights -/
  w0 : Fin 256 → Fin 128 → ℝ
  /-- its update's bias -/
  v0 : Fin 128 → ℝ
  /-- the second layer's projection -/
  W1 : Fin 128 → Fin 512 → ℝ
  /-- its attention vectors for the sources -/
  S1 : Fin 4 → Fin 128 → ℝ
  /-- and for the destinations -/
  D1 : Fin 4 → Fin 128 → ℝ

/-- The first layer on the nodes of one set. -/
def Params.first (p : Params) (X : Fin 256 → Fin 128 → ℝ) (n : Fin 256) (f : Fin 128) : ℝ :=
  renewReal (X n) (selfMean (project X p.W0) p.S0 p.D0 n) p.b0 p.w0 p.v0 f

/-- Both layers: the new features of the set `X`, the other set being `Y`, for a last bias and update of any values. -/
def Params.result (p : Params) (b : Fin 128 → EReal) (w : Fin 256 → Fin 128 → EReal) (v : Fin 128 → EReal)
    (Y X : Fin 256 → Fin 128 → ℝ) (n : Fin 256) (f : Fin 128) : EReal :=
  renew (fun k => (p.first X n k : EReal))
    (fun k => (crossMean (project (p.first Y) p.W1) (project (p.first X) p.W1) p.S1 p.D1 n k : EReal)) b w v f

end Cert.Gat

end
-- ==== Proof.KernelRead.lean ====
/- The kernel's layers read at an index, over the extended reals: where the nodes' features and the parameters of a layer
   are numbers, its attention is that of Proof/Network.lean (`selfHeads_apply`, `crossHeads_apply`), and the update is
   `renew` whatever the bias and the second weights are. -/
module

public import proofs.«01_k».proof.Proof.Blocks
public import proofs.«01_k».proof.Proof.Network
public import Idealize.ShloMosaic.Lib.MatmulPlain
public import Idealize.ShloMosaic.Lib.ValueIdx
public import Idealize.ShloMosaic.Lib.ValueLayout
public import Idealize.ShloMosaic.Lib.ValueLayoutCasts
public import Idealize.ShloMosaic.Lib.Pipeline.Value

@[expose] public section

noncomputable section

namespace Cert.Gat

open Idealize.ShloMosaic Idealize.ShloMosaic.ValueIdx Cert.KernelIdeal Cert.KernelIdeal.Gen

/-- A column given to every row of a matrix. -/
theorem broadcastTo_column_apply {α : Type} {a b : Nat} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The zero splat a product is added to. -/
theorem zeros_apply (s : Shape) (i : s.Idx) : constant (F := Ideal) s .f32 0x00000000#32 i = 0 := zero_word

/-- The nodes of a block are its columns. -/
theorem nodes_apply (v : FVec Ideal S1x128x256 .f32) (n : Fin 256) (k : Fin 128) :
    nodes v (ix2 n k) = v (ix3 0 k n) :=
  (transpose_ix2_apply _ _ n k).trans (shapeCast_1ab_ab_apply v _ k n)

/-- The block stored for a set of nodes has them as columns. -/
theorem block_apply (x : FVec Ideal S256x128 .f32) (k : Fin 128) (n : Fin 256) :
    block x (ix3 0 k n) = x (ix2 n k) :=
  (shapeCast_ab_1ab_apply _ _ 0 k n).trans (transpose_ix2_apply _ _ k n)

/-- An entry of the projection is a sum over the features. -/
theorem proj_apply (x : FVec Ideal S256x128 .f32) (w : FVec Ideal S128x512 .f32) (n : Fin 256) (j : Fin 512) :
    proj x w (ix2 n j) = ∑ k, x (ix2 n k) * w (ix2 k j) :=
  (Ideal.matmul_plain_apply none x w _ n j).trans (by rw [zeros_apply, zero_add])

/-- A head is a run of 128 of the projected features. -/
theorem head_apply (k : Fin 4) (o : Nat) (ho : 128 * k.val = o) (w : S256x512.Slices ![0, o] S256x128)
    (h : FVec Ideal S256x512 .f32) (n : Fin 256) (c : Fin 128) : head o w h (ix2 n c) = h (ix2 n (feat k c)) :=
  slice2_axis1_apply _ h w n c (feat k c) (congrArg (· + c.val) ho)

/-- A source logit is the product of the source vector with a node's features. -/
theorem srcRow_apply (a : FVec Ideal S1x128 .f32) (hs : FVec Ideal S256x128 .f32) (j : Fin 256) :
    srcRow a hs (ix2 0 j) = ∑ c, a (ix2 0 c) * hs (ix2 j c) :=
  (Ideal.matmul_transposedRhs_apply none a hs _ 0 j).trans (by rw [zeros_apply, zero_add])

/-- A destination logit is the product of a node's features with the destination vector. -/
theorem logitCol_apply (h : FVec Ideal S256x128 .f32) (a : FVec Ideal S1x128 .f32) (n : Fin 256) :
    logitCol h a (ix2 n 0) = ∑ c, h (ix2 n c) * a (ix2 0 c) :=
  (Ideal.matmul_transposedRhs_apply none h a _ n 0).trans (by rw [zeros_apply, zero_add])

/-- An entry of the weight matrix is the weight of its two logits. -/
theorem weights_apply (row : FVec Ideal S1x256 .f32) (col : FVec Ideal S256x1 .f32) (n j : Fin 256) :
    weights row col (ix2 n j) = weight (row (ix2 0 j)) (col (ix2 n 0)) := by
  show max (broadcastTo S256x256 (exp row) _ (ix2 n j) * broadcastTo S256x256 (exp col) _ (ix2 n j))
    (broadcastTo S256x256 (exp (slope row)) _ (ix2 n j) * broadcastTo S256x256 (exp (slope col)) _ (ix2 n j)) = _
  rw [broadcastTo_1b_ab_apply, broadcastTo_1b_ab_apply, broadcastTo_column_apply, broadcastTo_column_apply]
  rfl

/-- The total of a destination is the sum of its row of weights. -/
theorem total_apply (e : FVec Ideal S256x256 .f32) (n : Fin 256) : total e (ix2 n 0) = ∑ j, e (ix2 n j) := by
  refine (shapeCast_a_a1_apply _ _ n 0).trans ((Ideal.multiReduction_add_single e _ _ _ _ (ix1 n)).trans
    (Finset.sum_congr rfl fun k _ => congrArg e ?_))
  funext a
  match a with
  | ⟨0, _⟩ => rfl
  | ⟨1, _⟩ => rfl

/-- An entry of the mixture is the weighted sum of the sources' features. -/
theorem mix_apply (e : FVec Ideal S256x256 .f32) (hs : FVec Ideal S256x128 .f32) (n : Fin 256) (f : Fin 128) :
    mix e hs (ix2 n f) = ∑ j, e (ix2 n j) * hs (ix2 j f) :=
  (Ideal.matmul_plain_apply none e hs _ n f).trans (by rw [zeros_apply, zero_add])

/-- A bias is the same at every node. -/
theorem spread_apply (b : FVec Ideal S1x128 .f32) (n : Fin 256) (f : Fin 128) : spread b (ix2 n f) = b (ix2 0 f) :=
  (broadcastTo_1b_ab_apply _ _ n f).trans (congrFun (shapeCast_self b _) _)

/-- A node's update, read at a feature. -/
theorem update_apply (x acc : FVec Ideal S256x128 .f32) (b : FVec Ideal S1x128 .f32) (w : FVec Ideal S256x128 .f32)
    (v : FVec Ideal S1x128 .f32) (n : Fin 256) (f : Fin 128) :
    update x (message acc b) w v (ix2 n f)
      = renew (fun k => x (ix2 n k)) (fun k => acc (ix2 n k) * ((1 / 4 : ℝ) : EReal)) (fun k => b (ix2 0 k))
          (fun k j => w (ix2 k j)) (fun k => v (ix2 0 k)) f := by
  have hm : ∀ k, message acc b (ix2 n k) = max (acc (ix2 n k) * ((1 / 4 : ℝ) : EReal) + b (ix2 0 k)) 0 := fun k => by
    show max (acc (ix2 n k) * Ideal.ofBits .f32 0x3E800000#32 + spread b (ix2 n k)) (Ideal.ofBits .f32 0x00000000#32) = _
    rw [quarter_word, zero_word, spread_apply]
  show x (ix2 n f) + ((FloatOps.matmul (DotDims.plain 256 128 128) none x _ _ (ix2 n f)
    + FloatOps.matmul (DotDims.plain 256 128 128) none (message acc b) _ _ (ix2 n f)) + spread v (ix2 n f)) = _
  rw [Ideal.matmul_plain_apply, Ideal.matmul_plain_apply, zeros_apply, zero_add, zero_add, spread_apply]
  simp only [hm]
  refine congrArg (x (ix2 n f) + ·) (congrArg (· + v (ix2 0 f)) (congrArg₂ (· + ·) (Finset.sum_congr rfl fun k _ => ?_)
    (Finset.sum_congr rfl fun k _ => ?_)))
  · rw [slice2_axis0_apply 0 w _ k f (upper k) (Nat.zero_add _).symm]
  · rw [slice2_axis0_apply 128 w _ k f (lower k) rfl]

/-! ## The heads, where the features are numbers -/

/-- A logit of a column, of real features and a real attention vector. -/
theorem logitCol_coe {h : FVec Ideal S256x128 .f32} {a : FVec Ideal S1x128 .f32} {G : Fin 256 → Fin 128 → ℝ} {A : Fin 128 → ℝ}
    (hh : ∀ n c, h (ix2 n c) = (G n c : EReal)) (ha : ∀ c, a (ix2 0 c) = (A c : EReal)) (n : Fin 256) :
    logitCol h a (ix2 n 0) = ((∑ c, G n c * A c : ℝ) : EReal) := by
  rw [logitCol_apply]
  simp only [hh, ha, ← EReal.coe_mul, coe_sum]

/-- The same logit in the row of the sources. -/
theorem srcRow_coe {h : FVec Ideal S256x128 .f32} {a : FVec Ideal S1x128 .f32} {G : Fin 256 → Fin 128 → ℝ} {A : Fin 128 → ℝ}
    (hh : ∀ n c, h (ix2 n c) = (G n c : EReal)) (ha : ∀ c, a (ix2 0 c) = (A c : EReal)) (n : Fin 256) :
    srcRow a h (ix2 0 n) = ((∑ c, G n c * A c : ℝ) : EReal) := by
  rw [srcRow_apply]
  simp only [hh, ha, ← EReal.coe_mul, coe_sum, mul_comm]

/-- One head of a set's attention over itself. -/
theorem selfHead_coe (acc : FVec Ideal S256x128 .f32) {h : FVec Ideal S256x128 .f32} {s d : FVec Ideal S1x128 .f32}
    {G : Fin 256 → Fin 128 → ℝ} {A B : Fin 128 → ℝ} (hh : ∀ n c, h (ix2 n c) = (G n c : EReal))
    (hs : ∀ c, s (ix2 0 c) = (A c : EReal)) (hd : ∀ c, d (ix2 0 c) = (B c : EReal)) (n : Fin 256) (f : Fin 128) :
    selfHead acc h s d (ix2 n f) = acc (ix2 n f)
      + ((attend (fun j => Real.exp (leaky ((∑ c, G j c * A c) + ∑ c, G n c * B c))) (fun j => G j f) : ℝ) : EReal) := by
  show acc (ix2 n f) + Ideal.div (mix _ h (ix2 n f)) (broadcastTo S256x128 (total (F := Ideal) _) _ (ix2 n f)) = _
  rw [broadcastTo_column_apply, mix_apply, total_apply]
  simp only [weights_apply, srcRow_coe hh hs, logitCol_coe hh hd, hh]
  rw [self_attention]

/-- One head of a set's attention over the other set and its own loops. -/
theorem crossHead_coe (acc : FVec Ideal S256x128 .f32) {g h : FVec Ideal S256x128 .f32} {s d : FVec Ideal S1x128 .f32}
    {G H : Fin 256 → Fin 128 → ℝ} {A B : Fin 128 → ℝ} (hg : ∀ n c, g (ix2 n c) = (G n c : EReal))
    (hh : ∀ n c, h (ix2 n c) = (H n c : EReal))
    (hs : ∀ c, s (ix2 0 c) = (A c : EReal)) (hd : ∀ c, d (ix2 0 c) = (B c : EReal)) (n : Fin 256) (f : Fin 128) :
    crossHead acc g h s d (ix2 n f) = acc (ix2 n f)
      + ((attendLoop (fun j => Real.exp (leaky ((∑ c, G j c * A c) + ∑ c, H n c * B c))) (fun j => G j f)
          (Real.exp (leaky ((∑ c, H n c * A c) + ∑ c, H n c * B c))) (H n f) : ℝ) : EReal) := by
  have hl : loopWeight h s d (ix2 n 0) = Ideal.exp (max (((∑ c, H n c * A c) + ∑ c, H n c * B c : ℝ) : EReal)
      (Ideal.ofBits .f32 0x3E4CCCCD#32 * (((∑ c, H n c * A c) + ∑ c, H n c * B c : ℝ) : EReal))) := by
    show Ideal.exp (max (logitCol h s (ix2 n 0) + logitCol h d (ix2 n 0))
      (Ideal.ofBits .f32 0x3E4CCCCD#32 * (logitCol h s (ix2 n 0) + logitCol h d (ix2 n 0)))) = _
    rw [logitCol_coe hh hs, logitCol_coe hh hd, ← EReal.coe_add]
  show acc (ix2 n f) + Ideal.div
    (mix _ g (ix2 n f) + broadcastTo S256x128 (loopWeight h s d) _ (ix2 n f) * h (ix2 n f))
    (broadcastTo S256x128 (addf (total (F := Ideal) _) (loopWeight h s d)) _ (ix2 n f)) = _
  rw [broadcastTo_column_apply, broadcastTo_column_apply, addf_apply, mix_apply, total_apply, hl]
  simp only [weights_apply, srcRow_coe hg hs, logitCol_coe hh hd, hg, hh]
  rw [cross_attention]

/-- The four rows of an attention vector array hold the real vectors `A`. -/
structure Rows (r0 r1 r2 r3 : FVec Ideal S1x128 .f32) (A : Fin 4 → Fin 128 → ℝ) : Prop where
  /-- head 0 -/
  row0 : ∀ c, r0 (ix2 0 c) = (A 0 c : EReal)
  /-- head 1 -/
  row1 : ∀ c, r1 (ix2 0 c) = (A 1 c : EReal)
  /-- head 2 -/
  row2 : ∀ c, r2 (ix2 0 c) = (A 2 c : EReal)
  /-- head 3 -/
  row3 : ∀ c, r3 (ix2 0 c) = (A 3 c : EReal)

/-- A head of real features is real. -/
theorem head_coe {h : FVec Ideal S256x512 .f32} {H : Fin 256 → Fin 512 → ℝ} (hh : ∀ n j, h (ix2 n j) = (H n j : EReal))
    (k : Fin 4) (o : Nat) (ho : 128 * k.val = o) (w : S256x512.Slices ![0, o] S256x128) (n : Fin 256) (c : Fin 128) :
    head o w h (ix2 n c) = (H n (feat k c) : EReal) := (head_apply k o ho w h n c).trans (hh _ _)

/-- The heads are added up from 0. -/
theorem start_apply (n : Fin 256) (f : Fin 128) : start (F := Ideal) (ix2 n f) = 0 := zero_word

/-- A set's attention over itself, averaged over the heads. -/
theorem selfHeads_apply {h : FVec Ideal S256x512 .f32} {s0 s1 s2 s3 d0 d1 d2 d3 : FVec Ideal S1x128 .f32}
    {H : Fin 256 → Fin 512 → ℝ} {S D : Fin 4 → Fin 128 → ℝ} (hh : ∀ n j, h (ix2 n j) = (H n j : EReal))
    (hs : Rows s0 s1 s2 s3 S) (hd : Rows d0 d1 d2 d3 D) (n : Fin 256) (f : Fin 128) :
    selfHeads h s0 s1 s2 s3 d0 d1 d2 d3 (ix2 n f) * ((1 / 4 : ℝ) : EReal) = (selfMean H S D n f : EReal) := by
  unfold selfHeads
  rw [selfHead_coe _ (head_coe hh 3 384 rfl _) hs.row3 hd.row3, selfHead_coe _ (head_coe hh 2 256 rfl _) hs.row2 hd.row2,
    selfHead_coe _ (head_coe hh 1 128 rfl _) hs.row1 hd.row1, selfHead_coe _ (head_coe hh 0 0 rfl _) hs.row0 hd.row0, start_apply, zero_add,
    ← EReal.coe_add, ← EReal.coe_add, ← EReal.coe_add, ← EReal.coe_mul, selfMean, Fin.sum_univ_four]
  rfl

/-- A set's attention over the other set and its own loops, averaged over the heads. -/
theorem crossHeads_apply {g h : FVec Ideal S256x512 .f32} {s0 s1 s2 s3 d0 d1 d2 d3 : FVec Ideal S1x128 .f32}
    {G H : Fin 256 → Fin 512 → ℝ} {S D : Fin 4 → Fin 128 → ℝ} (hg : ∀ n j, g (ix2 n j) = (G n j : EReal))
    (hh : ∀ n j, h (ix2 n j) = (H n j : EReal)) (hs : Rows s0 s1 s2 s3 S) (hd : Rows d0 d1 d2 d3 D) (n : Fin 256) (f : Fin 128) :
    crossHeads g h s0 s1 s2 s3 d0 d1 d2 d3 (ix2 n f) * ((1 / 4 : ℝ) : EReal) = (crossMean G H S D n f : EReal) := by
  unfold crossHeads
  rw [crossHead_coe _ (head_coe hg 3 384 rfl _) (head_coe hh 3 384 rfl _) hs.row3 hd.row3,
    crossHead_coe _ (head_coe hg 2 256 rfl _) (head_coe hh 2 256 rfl _) hs.row2 hd.row2,
    crossHead_coe _ (head_coe hg 1 128 rfl _) (head_coe hh 1 128 rfl _) hs.row1 hd.row1,
    crossHead_coe _ (head_coe hg 0 0 rfl _) (head_coe hh 0 0 rfl _) hs.row0 hd.row0, start_apply, zero_add,
    ← EReal.coe_add, ← EReal.coe_add, ← EReal.coe_add, ← EReal.coe_mul, crossMean, Fin.sum_univ_four]
  rfl

/-- A projection of real features is real. -/
theorem proj_coe {x : FVec Ideal S256x128 .f32} {w : FVec Ideal S128x512 .f32} {X : Fin 256 → Fin 128 → ℝ}
    {W : Fin 128 → Fin 512 → ℝ} (hx : ∀ n k, x (ix2 n k) = (X n k : EReal)) (hw : ∀ k j, w (ix2 k j) = (W k j : EReal))
    (n : Fin 256) (j : Fin 512) : proj x w (ix2 n j) = (project X W n j : EReal) := by
  rw [proj_apply]
  simp only [hx, hw, ← EReal.coe_mul, coe_sum]
  rfl

end Cert.Gat

end
-- ==== Proof.Inputs.lean ====
/- The fourteen arguments as plain arrays, what it means that those read before the last softmax hold numbers (`Held`), and
   the answer both programs are shown to give on them (`answer`). -/
module

public import proofs.«01_k».proof.Proof.Network
public import Idealize.ShloMosaic.Lib.ValueIdx

@[expose] public section

noncomputable section

namespace Cert.Gat

open Idealize.ShloMosaic Idealize.ShloMosaic.ValueIdx

/-- The arguments of the network, in the order in which the programs take them. -/
structure Inputs where
  /-- the features of the first set's nodes, batch by feature by node -/
  x0 : (⟨3, ![4, 128, 256]⟩ : Shape).Idx → EReal
  /-- the features of the second set's nodes -/
  x1 : (⟨3, ![4, 128, 256]⟩ : Shape).Idx → EReal
  /-- first layer: projection -/
  W0 : (⟨2, ![128, 512]⟩ : Shape).Idx → EReal
  /-- attention vectors for the sources -/
  S0 : (⟨2, ![4, 128]⟩ : Shape).Idx → EReal
  /-- attention vectors for the destinations -/
  D0 : (⟨2, ![4, 128]⟩ : Shape).Idx → EReal
  /-- bias of the attention -/
  b0 : (⟨1, ![128]⟩ : Shape).Idx → EReal
  /-- weights of the update -/
  w0 : (⟨2, ![256, 128]⟩ : Shape).Idx → EReal
  /-- bias of the update -/
  v0 : (⟨1, ![128]⟩ : Shape).Idx → EReal
  /-- second layer: projection -/
  W1 : (⟨2, ![128, 512]⟩ : Shape).Idx → EReal
  /-- attention vectors for the sources -/
  S1 : (⟨2, ![4, 128]⟩ : Shape).Idx → EReal
  /-- attention vectors for the destinations -/
  D1 : (⟨2, ![4, 128]⟩ : Shape).Idx → EReal
  /-- bias of the attention -/
  b1 : (⟨1, ![128]⟩ : Shape).Idx → EReal
  /-- weights of the update -/
  w1 : (⟨2, ![256, 128]⟩ : Shape).Idx → EReal
  /-- bias of the update -/
  v1 : (⟨1, ![128]⟩ : Shape).Idx → EReal

/-- The features of one set's nodes, batch by node by feature, as real numbers. -/
abbrev Points : Type := Fin 4 → Fin 256 → Fin 128 → ℝ

/-- The arguments read before the last softmax hold the real numbers `p`, `X0` and `X1`. -/
structure Inputs.Held (I : Inputs) (p : Params) (X0 X1 : Points) : Prop where
  /-- first set -/
  x0 : ∀ b n k, I.x0 (ix3 b k n) = (X0 b n k : EReal)
  /-- second set -/
  x1 : ∀ b n k, I.x1 (ix3 b k n) = (X1 b n k : EReal)
  /-- first layer: projection -/
  W0 : ∀ k j, I.W0 (ix2 k j) = (p.W0 k j : EReal)
  /-- attention vectors for the sources -/
  S0 : ∀ k c, I.S0 (ix2 k c) = (p.S0 k c : EReal)
  /-- attention vectors for the destinations -/
  D0 : ∀ k c, I.D0 (ix2 k c) = (p.D0 k c : EReal)
  /-- bias of the attention -/
  b0 : ∀ k, I.b0 (ix1 k) = (p.b0 k : EReal)
  /-- weights of the update -/
  w0 : ∀ k j, I.w0 (ix2 k j) = (p.w0 k j : EReal)
  /-- bias of the update -/
  v0 : ∀ k, I.v0 (ix1 k) = (p.v0 k : EReal)
  /-- second layer: projection -/
  W1 : ∀ k j, I.W1 (ix2 k j) = (p.W1 k j : EReal)
  /-- attention vectors for the sources -/
  S1 : ∀ k c, I.S1 (ix2 k c) = (p.S1 k c : EReal)
  /-- attention vectors for the destinations -/
  D1 : ∀ k c, I.D1 (ix2 k c) = (p.D1 k c : EReal)

/-- The answer for the set `X`, the other being `Y`: feature `f` of node `n` in batch `b`. -/
def Inputs.answer (I : Inputs) (p : Params) (Y X : Points) (b : Fin 4) (f : Fin 128) (n : Fin 256) : EReal :=
  p.result (fun k => I.b1 (ix1 k)) (fun k j => I.w1 (ix2 k j)) (fun k => I.v1 (ix1 k)) (Y b) (X b) n f

/-- An array of numbers: no entry is infinite. -/
def Numbers {s : Shape} (x : s.Idx → EReal) : Prop := ∀ i, x i ≠ ⊤ ∧ x i ≠ ⊥

/-- An entry that is a number is the image of its real part. -/
theorem Numbers.coe {s : Shape} {x : s.Idx → EReal} (h : Numbers x) (i : s.Idx) : x i = ((x i).toReal : EReal) :=
  (EReal.coe_toReal (h i).1 (h i).2).symm

/-- The real parameters of arguments that hold numbers. -/
def Inputs.params (I : Inputs) : Params where
  W0 k j := (I.W0 (ix2 k j)).toReal
  S0 k c := (I.S0 (ix2 k c)).toReal
  D0 k c := (I.D0 (ix2 k c)).toReal
  b0 k := (I.b0 (ix1 k)).toReal
  w0 k j := (I.w0 (ix2 k j)).toReal
  v0 k := (I.v0 (ix1 k)).toReal
  W1 k j := (I.W1 (ix2 k j)).toReal
  S1 k c := (I.S1 (ix2 k c)).toReal
  D1 k c := (I.D1 (ix2 k c)).toReal

/-- The real features of a set. -/
def points (x : (⟨3, ![4, 128, 256]⟩ : Shape).Idx → EReal) : Points := fun b n k => (x (ix3 b k n)).toReal

/-- Arguments without an infinite entry hold real numbers. -/
theorem Inputs.held (I : Inputs) (hx0 : Numbers I.x0) (hx1 : Numbers I.x1) (hW0 : Numbers I.W0) (hS0 : Numbers I.S0)
    (hD0 : Numbers I.D0) (hb0 : Numbers I.b0) (hw0 : Numbers I.w0) (hv0 : Numbers I.v0) (hW1 : Numbers I.W1)
    (hS1 : Numbers I.S1) (hD1 : Numbers I.D1) : I.Held I.params (points I.x0) (points I.x1) where
  x0 _ _ _ := hx0.coe _
  x1 _ _ _ := hx1.coe _
  W0 _ _ := hW0.coe _
  S0 _ _ := hS0.coe _
  D0 _ _ := hD0.coe _
  b0 _ := hb0.coe _
  w0 _ _ := hw0.coe _
  v0 _ := hv0.coe _
  W1 _ _ := hW1.coe _
  S1 _ _ := hS1.coe _
  D1 _ _ := hD1.coe _

end Cert.Gat

end
-- ==== Proof.KernelValue.lean ====
/- The kernel's two result arrays after its run, read at an index: the answer of Proof/Inputs.lean on its arguments. -/
module

public import proofs.«01_k».proof.Proof.KernelRead
public import proofs.«01_k».proof.Proof.Inputs
public import proofs.«01_k».proof.Proof.Gen.KernelIdeal.Value
public import Idealize.ShloMosaic.Lib.Tactic
public import Idealize.ShloMosaic.Lib.Claim
public import Idealize.ShloMosaic.Lib.Pipeline.ValueKit

@[expose] public section

noncomputable section

namespace Cert.Gat

open Idealize.ShloMosaic hiding ix1 ix2 ix3
open Cert.KernelIdeal Cert.KernelIdeal.Gen Idealize.ShloMosaic.ValueIdx Idealize.ShloMosaic.TcCoe
open Idealize.ShloMosaic.Pipeline (Dat)

/-! ## Loads -/

/-- The origin of a matrix. -/
theorem zeros_two : (![0, 0] : Fin 2 → Nat) = fun _ => 0 := funext fun a => by fin_cases a <;> rfl

/-- A row of an attention vector array. -/
theorem ld_row (x : Vec Ideal S4x128 .f32) (k : Fin 4) (inb : ∀ a, (![k.val, 0] : Fin 2 → Nat) a + S1x128.size a ≤ S4x128.size a)
    (c : Fin 128) : View.ld x (Rect.unit (s := S4x128) ![k.val, 0] S1x128.size inb) (ix2 0 c) = x (ix2 k c) := by
  refine congrArg x (funext fun a => ?_)
  match a with
  | ⟨0, _⟩ => exact Fin.ext (Nat.add_zero k.val)
  | ⟨1, _⟩ => exact Fin.ext ((Nat.zero_add _).trans (Nat.one_mul c.val))

/-- A batch of an input. -/
theorem ld_batch (x : Vec Ideal S4x128x256 .f32) (b : Fin 4)
    (inb : ∀ a, (![b.val, 0, 0] : Fin 3 → Nat) a + S1x128x256.size a ≤ S4x128x256.size a) (k : Fin 128) (n : Fin 256) :
    View.ld x (Rect.unit (s := S4x128x256) ![b.val, 0, 0] S1x128x256.size inb) (ix3 0 k n) = x (ix3 b k n) := by
  refine congrArg x (funext fun a => ?_)
  match a with
  | ⟨0, _⟩ => exact Fin.ext (Nat.add_zero b.val)
  | ⟨1, _⟩ => exact Fin.ext ((Nat.zero_add _).trans (Nat.one_mul k.val))
  | ⟨2, _⟩ => exact Fin.ext ((Nat.zero_add _).trans (Nat.one_mul n.val))

/-- The four rows of real attention vectors. -/
theorem rows_coe {x : Vec Ideal S4x128 .f32} {A : Fin 4 → Fin 128 → ℝ} (h : ∀ k c, x (ix2 k c) = (A k c : EReal)) :
    Rows (View.ld x r0_3) (View.ld x r0_4) (View.ld x r0_5) (View.ld x r0_6) A where
  row0 c := (ld_row x 0 _ c).trans (h 0 c)
  row1 c := (ld_row x 1 _ c).trans (h 1 c)
  row2 c := (ld_row x 2 _ c).trans (h 2 c)
  row3 c := (ld_row x 3 _ c).trans (h 3 c)

/-! ## Both layers on one batch -/

/-- A bias as the kernel is given it, a matrix of one row. -/
def lift (b : (⟨1, ![128]⟩ : Shape).Idx → EReal) : Vec Ideal S1x128 .f32 := shapeCast S1x128 b shapeCasts_S128_S1x128

/-- A vector taken as a row keeps its entries. -/
theorem lift_apply (b : (⟨1, ![128]⟩ : Shape).Idx → EReal) (k : Fin 128) : lift b (ix2 0 k) = b (ix1 k) :=
  shapeCast_a_1a_apply b _ 0 k

variable {I : Inputs} {p : Params} {X0 X1 : Points}

/-- What the kernel's first layer makes of a set is the real first layer. -/
theorem first_coe (H : I.Held p X0 X1) (v : FVec Ideal S1x128x256 .f32) {X : Fin 256 → Fin 128 → ℝ}
    (hv : ∀ n k, v (ix3 0 k n) = (X n k : EReal)) (n : Fin 256) (f : Fin 128) :
    first I.W0 I.S0 I.D0 (lift I.b0) I.w0 (lift I.v0) v (ix2 n f) = (p.first X n f : EReal) := by
  have hx : ∀ n k, nodes v (ix2 n k) = (X n k : EReal) := fun n k => (nodes_apply v n k).trans (hv n k)
  unfold first selfLayer
  rw [update_apply, View.ld_unit_zero zeros_two, View.ld_unit_zero zeros_two, View.ld_unit_zero zeros_two,
    View.ld_unit_zero zeros_two]
  simp only [selfHeads_apply (proj_coe hx H.W0) (rows_coe H.S0) (rows_coe H.D0), hx, H.w0, lift_apply, H.b0, H.v0]
  exact renew_coe _ _ _ _ _ _

/-- The block the kernel stores for a set is the network's result on it. -/
theorem stored_apply (H : I.Held p X0 X1) (u v : FVec Ideal S1x128x256 .f32) {Y X : Fin 256 → Fin 128 → ℝ}
    (hu : ∀ n k, u (ix3 0 k n) = (Y n k : EReal)) (hv : ∀ n k, v (ix3 0 k n) = (X n k : EReal)) (n : Fin 256) (f : Fin 128) :
    stored I.W0 I.S0 I.D0 (lift I.b0) I.w0 (lift I.v0) I.W1 I.S1 I.D1 (lift I.b1) I.w1 (lift I.v1) u v (ix3 0 f n)
      = p.result (fun k => I.b1 (ix1 k)) (fun k j => I.w1 (ix2 k j)) (fun k => I.v1 (ix1 k)) Y X n f := by
  unfold stored
  rw [block_apply]
  unfold second crossLayer
  rw [update_apply, View.ld_unit_zero zeros_two, View.ld_unit_zero zeros_two, View.ld_unit_zero zeros_two,
    View.ld_unit_zero zeros_two]
  simp only [crossHeads_apply (proj_coe (first_coe H u hu) H.W1) (proj_coe (first_coe H v hv) H.W1) (rows_coe H.S1)
    (rows_coe H.D1), first_coe H v hv, lift_apply]
  rfl

/-! ## The four batches -/

/-- A block stored on batch `b` is that batch of the array whose batches are the blocks `v`. -/
theorem piece_batch (v : Fin 4 → FVec Ideal S1x128x256 .f32) (b : Fin 4)
    (inb : ∀ a, (![b.val, 0, 0] : Fin 3 → Nat) a + S1x128x256.size a ≤ S4x128x256.size a)
    (x : (Rect.unit (s := S4x128x256) ![b.val, 0, 0] S1x128x256.size inb).shape.Idx) :
    v b x = (fun i : S4x128x256.Idx => v (i 0) (ix3 0 (i 1) (i 2))) ((Rect.unit (s := S4x128x256) ![b.val, 0, 0] S1x128x256.size inb).emb x) := by
  have hx : (x 0).val = 0 := by
    have h : (x 0).val < 1 := (x 0).isLt
    omega
  have e0 : ((Rect.unit (s := S4x128x256) ![b.val, 0, 0] S1x128x256.size inb).emb x) 0 = b :=
    Fin.ext (show b.val + 1 * (x 0).val = b.val by omega)
  show v b x = v (((Rect.unit (s := S4x128x256) ![b.val, 0, 0] S1x128x256.size inb).emb x) 0) _
  rw [e0]
  refine congrArg (v b) (funext fun a => ?_)
  match a with
  | ⟨0, _⟩ => exact Fin.ext hx
  | ⟨1, _⟩ => exact Fin.ext (show (x 1).val = 0 + 1 * (x 1).val by omega)
  | ⟨2, _⟩ => exact Fin.ext (show (x 2).val = 0 + 1 * (x 2).val by omega)

/-- Four blocks stored one after the other, each on its batch, read at an index. -/
theorem canon_batches (v : Fin 4 → FVec Ideal S1x128x256 .f32) (b : Fin 4) (k : Fin 128) (n : Fin 256) :
    View.canon (Val := Elt Ideal) (e := .f32) [⟨r0_10, v 3⟩, ⟨r0_9, v 2⟩, ⟨r0_8, v 1⟩, ⟨r0_0, v 0⟩] (ix3 b k n)
      = v b (ix3 0 k n) := by
  refine View.canon_apply_of_pieces (fun i : S4x128x256.Idx => v (i 0) (ix3 0 (i 1) (i 2))) _ ?_ _
    (cover0_14 (F := Ideal) (v 3) (v 2) (v 1) (v 0) _)
  intro q hq
  simp only [List.mem_cons, List.not_mem_nil, or_false] at hq
  rcases hq with rfl | rfl | rfl | rfl
  · exact piece_batch v 3 (by decide)
  · exact piece_batch v 2 (by decide)
  · exact piece_batch v 1 (by decide)
  · exact piece_batch v 0 (by decide)

/-- The two loads of one batch, by batch. -/
def batch (x : Vec Ideal S4x128x256 .f32) : Fin 4 → FVec Ideal S1x128x256 .f32
  | 0 => View.ld x r0_0
  | 1 => View.ld x r0_8
  | 2 => View.ld x r0_9
  | 3 => View.ld x r0_10

/-- A batch member's block is that part of the array. -/
theorem batch_apply (x : Vec Ideal S4x128x256 .f32) (b : Fin 4) (k : Fin 128) (n : Fin 256) :
    batch x b (ix3 0 k n) = x (ix3 b k n) :=
  match b with
  | 0 => ld_batch x 0 _ k n
  | 1 => ld_batch x 1 _ k n
  | 2 => ld_batch x 2 _ k n
  | 3 => ld_batch x 3 _ k n

/-- The first result block. -/
theorem out_first_apply (H : I.Held p X0 X1) (b : Fin 4) (f : Fin 128) (n : Fin 256) :
    out0_14 (F := Ideal) I.x0 I.x1 I.W0 I.S0 I.D0 (lift I.b0) I.w0 (lift I.v0) I.W1 I.S1 I.D1 (lift I.b1) I.w1 (lift I.v1) (ix3 b f n)
      = I.answer p X1 X0 b f n := by
  rw [out_first]
  refine (canon_batches (fun b => stored I.W0 I.S0 I.D0 (lift I.b0) I.w0 (lift I.v0) I.W1 I.S1 I.D1 (lift I.b1) I.w1
    (lift I.v1) (batch I.x1 b) (batch I.x0 b)) b f n).trans ?_
  exact stored_apply H _ _ (fun n k => (batch_apply _ _ _ _).trans (H.x1 b n k))
    (fun n k => (batch_apply _ _ _ _).trans (H.x0 b n k)) n f

/-- The second result block. -/
theorem out_second_apply (H : I.Held p X0 X1) (b : Fin 4) (f : Fin 128) (n : Fin 256) :
    out0_15 (F := Ideal) I.x0 I.x1 I.W0 I.S0 I.D0 (lift I.b0) I.w0 (lift I.v0) I.W1 I.S1 I.D1 (lift I.b1) I.w1 (lift I.v1) (ix3 b f n)
      = I.answer p X0 X1 b f n := by
  rw [out_second]
  refine (canon_batches (fun b => stored I.W0 I.S0 I.D0 (lift I.b0) I.w0 (lift I.v0) I.W1 I.S1 I.D1 (lift I.b1) I.w1
    (lift I.v1) (batch I.x0 b) (batch I.x1 b)) b f n).trans ?_
  exact stored_apply H _ _ (fun n k => (batch_apply _ _ _ _).trans (H.x0 b n k))
    (fun n k => (batch_apply _ _ _ _).trans (H.x1 b n k)) n f

/-! ## The arrays after the run -/

section Arrays

open Idealize.SL.Sem

variable (m : (ℓ : Loc nD τ sig) → Buf (Elt Ideal) ℓ) (c : Dev nD)

/-- The kernel's arguments on a device. -/
def kernelInputs : Inputs where
  x0 := m ((c : Thread nD τ).loc main_arg0)
  x1 := m ((c : Thread nD τ).loc main_arg1)
  W0 := m ((c : Thread nD τ).loc main_arg2)
  S0 := m ((c : Thread nD τ).loc main_arg3)
  D0 := m ((c : Thread nD τ).loc main_arg4)
  b0 := m ((c : Thread nD τ).loc main_arg5)
  w0 := m ((c : Thread nD τ).loc main_arg6)
  v0 := m ((c : Thread nD τ).loc main_arg7)
  W1 := m ((c : Thread nD τ).loc main_arg8)
  S1 := m ((c : Thread nD τ).loc main_arg9)
  D1 := m ((c : Thread nD τ).loc main_arg10)
  b1 := m ((c : Thread nD τ).loc main_arg11)
  w1 := m ((c : Thread nD τ).loc main_arg12)
  v1 := m ((c : Thread nD τ).loc main_arg13)

/-! Every window covers its whole array: the blocks the kernel reads are its arguments, the biases as rows. -/

/-- The first layer's attention bias, as a row. -/
theorem row_b0 : (V m c main_call0_v0 : Vec Ideal S1x128 .f32) = lift (kernelInputs m c).b0 := by
  entry_read
  rfl

/-- The first layer's MLP bias, as a row. -/
theorem row_v0 : (V m c main_call0_v1 : Vec Ideal S1x128 .f32) = lift (kernelInputs m c).v0 := by
  entry_read
  rfl

/-- The second layer's attention bias, as a row. -/
theorem row_b1 : (V m c main_call0_v2 : Vec Ideal S1x128 .f32) = lift (kernelInputs m c).b1 := by
  entry_read
  rfl

/-- The second layer's MLP bias, as a row. -/
theorem row_v1 : (V m c main_call0_v3 : Vec Ideal S1x128 .f32) = lift (kernelInputs m c).v1 := by
  entry_read
  rfl

/-- The first point set is read whole. -/
theorem read_x0 (t) : (iblk m c 0 t : Vec Ideal S4x128x256 .f32) = (kernelInputs m c).x0 :=
  (Memref.read_access_unit_zero (Elt Ideal) main_arg0 (funext fun a => by fin_cases a <;> rfl) _ _).trans (V_main_arg0 m c)

/-- The second point set is read whole. -/
theorem read_x1 (t) : (iblk m c 1 t : Vec Ideal S4x128x256 .f32) = (kernelInputs m c).x1 :=
  (Memref.read_access_unit_zero (Elt Ideal) main_arg1 (funext fun a => by fin_cases a <;> rfl) _ _).trans (V_main_arg1 m c)

/-- The first layer's projection weight is read whole. -/
theorem read_W0 (t) : (iblk m c 2 t : Vec Ideal S128x512 .f32) = (kernelInputs m c).W0 :=
  (Memref.read_access_unit_zero (Elt Ideal) main_arg2 (funext fun a => by fin_cases a <;> rfl) _ _).trans (V_main_arg2 m c)

/-- The first layer's source vectors are read whole. -/
theorem read_S0 (t) : (iblk m c 3 t : Vec Ideal S4x128 .f32) = (kernelInputs m c).S0 :=
  (Memref.read_access_unit_zero (Elt Ideal) main_arg3 (funext fun a => by fin_cases a <;> rfl) _ _).trans (V_main_arg3 m c)

/-- The first layer's destination vectors are read whole. -/
theorem read_D0 (t) : (iblk m c 4 t : Vec Ideal S4x128 .f32) = (kernelInputs m c).D0 :=
  (Memref.read_access_unit_zero (Elt Ideal) main_arg4 (funext fun a => by fin_cases a <;> rfl) _ _).trans (V_main_arg4 m c)

/-- The first layer's attention bias is read whole. -/
theorem read_b0 (t) : (iblk m c 5 t : Vec Ideal S1x128 .f32) = lift (kernelInputs m c).b0 :=
  (Memref.read_access_unit_zero (Elt Ideal) main_call0_v0 (funext fun a => by fin_cases a <;> rfl) _ _).trans (row_b0 m c)

/-- The first layer's MLP weight is read whole. -/
theorem read_w0 (t) : (iblk m c 6 t : Vec Ideal S256x128 .f32) = (kernelInputs m c).w0 :=
  (Memref.read_access_unit_zero (Elt Ideal) main_arg6 (funext fun a => by fin_cases a <;> rfl) _ _).trans (V_main_arg6 m c)

/-- The first layer's MLP bias is read whole. -/
theorem read_v0 (t) : (iblk m c 7 t : Vec Ideal S1x128 .f32) = lift (kernelInputs m c).v0 :=
  (Memref.read_access_unit_zero (Elt Ideal) main_call0_v1 (funext fun a => by fin_cases a <;> rfl) _ _).trans (row_v0 m c)

/-- The second layer's projection weight is read whole. -/
theorem read_W1 (t) : (iblk m c 8 t : Vec Ideal S128x512 .f32) = (kernelInputs m c).W1 :=
  (Memref.read_access_unit_zero (Elt Ideal) main_arg8 (funext fun a => by fin_cases a <;> rfl) _ _).trans (V_main_arg8 m c)

/-- The second layer's source vectors are read whole. -/
theorem read_S1 (t) : (iblk m c 9 t : Vec Ideal S4x128 .f32) = (kernelInputs m c).S1 :=
  (Memref.read_access_unit_zero (Elt Ideal) main_arg9 (funext fun a => by fin_cases a <;> rfl) _ _).trans (V_main_arg9 m c)

/-- The second layer's destination vectors are read whole. -/
theorem read_D1 (t) : (iblk m c 10 t : Vec Ideal S4x128 .f32) = (kernelInputs m c).D1 :=
  (Memref.read_access_unit_zero (Elt Ideal) main_arg10 (funext fun a => by fin_cases a <;> rfl) _ _).trans (V_main_arg10 m c)

/-- The second layer's attention bias is read whole. -/
theorem read_b1 (t) : (iblk m c 11 t : Vec Ideal S1x128 .f32) = lift (kernelInputs m c).b1 :=
  (Memref.read_access_unit_zero (Elt Ideal) main_call0_v2 (funext fun a => by fin_cases a <;> rfl) _ _).trans (row_b1 m c)

/-- The second layer's MLP weight is read whole. -/
theorem read_w1 (t) : (iblk m c 12 t : Vec Ideal S256x128 .f32) = (kernelInputs m c).w1 :=
  (Memref.read_access_unit_zero (Elt Ideal) main_arg12 (funext fun a => by fin_cases a <;> rfl) _ _).trans (V_main_arg12 m c)

/-- The second layer's MLP bias is read whole. -/
theorem read_v1 (t) : (iblk m c 13 t : Vec Ideal S1x128 .f32) = lift (kernelInputs m c).v1 :=
  (Memref.read_access_unit_zero (Elt Ideal) main_call0_v3 (funext fun a => by fin_cases a <;> rfl) _ _).trans (row_v1 m c)

/-- The first result array after the run, read at an index. -/
theorem first_array (H : (kernelInputs m c).Held p X0 X1) (b : Fin 4) (f : Fin 128) (n : Fin 256) :
    ((dats m 0 c).arrAt 14 cfg0.N : Vec Ideal S4x128x256 .f32) (ix3 b f n) = (kernelInputs m c).answer p X1 X0 b f n := by
  refine Eq.trans (congrFun ((dats m 0 c).arrAt_eq_of_after_last 14 t0_0 (by decide +kernel)
    (out0_14 (iblk m c 0 t0_0) (iblk m c 1 t0_0) (iblk m c 2 t0_0) (iblk m c 3 t0_0) (iblk m c 4 t0_0) (iblk m c 5 t0_0)
      (iblk m c 6 t0_0) (iblk m c 7 t0_0) (iblk m c 8 t0_0) (iblk m c 9 t0_0) (iblk m c 10 t0_0) (iblk m c 11 t0_0)
      (iblk m c 12 t0_0) (iblk m c 13 t0_0)) fun j => ?_) _) ?_
  · blk_simp
    rw [after0_14]
  · rw [read_x0, read_x1, read_W0, read_S0, read_D0, read_b0, read_w0, read_v0, read_W1, read_S1, read_D1, read_b1, read_w1, read_v1]
    exact out_first_apply H b f n

/-- The second result array after the run, read at an index. -/
theorem second_array (H : (kernelInputs m c).Held p X0 X1) (b : Fin 4) (f : Fin 128) (n : Fin 256) :
    ((dats m 0 c).arrAt 15 cfg0.N : Vec Ideal S4x128x256 .f32) (ix3 b f n) = (kernelInputs m c).answer p X0 X1 b f n := by
  refine Eq.trans (congrFun ((dats m 0 c).arrAt_eq_of_after_last 15 t0_0 (by decide +kernel)
    (out0_15 (iblk m c 0 t0_0) (iblk m c 1 t0_0) (iblk m c 2 t0_0) (iblk m c 3 t0_0) (iblk m c 4 t0_0) (iblk m c 5 t0_0)
      (iblk m c 6 t0_0) (iblk m c 7 t0_0) (iblk m c 8 t0_0) (iblk m c 9 t0_0) (iblk m c 10 t0_0) (iblk m c 11 t0_0)
      (iblk m c 12 t0_0) (iblk m c 13 t0_0)) fun j => ?_) _) ?_
  · blk_simp
    rw [after0_15]
  · rw [read_x0, read_x1, read_W0, read_S0, read_D0, read_b0, read_w0, read_v0, read_W1, read_S1, read_D1, read_b1, read_w1, read_v1]
    exact out_second_apply H b f n

end Arrays

end Cert.Gat

end
-- ==== Proof.Dense.lean ====
/- A layer of the reference, read entry by entry for one batch member, on real features: its steps' equations give the graph
   attention of Proof/Network.lean, and its last steps the residual update. -/
module

public import proofs.«01_k».proof.Proof.KernelValue
public import proofs.«01_k».proof.Proof.Gen.ReferenceIdeal.Read
public import Idealize.ShloMosaic.Lib.Pointwise.Select

@[expose] public section

noncomputable section

namespace Cert.Gat

open Idealize.ShloMosaic hiding ix1 ix2 ix3 ix4
open Idealize.ShloMosaic.ValueIdx

variable {adj : Fin 512 → Fin 512 → Prop} [∀ i j, Decidable (adj i j)]
variable {X : Fin 512 → Fin 128 → ℝ} {W : Fin 128 → Fin 512 → ℝ} {S D : Fin 4 → Fin 128 → ℝ}

/-- The reference's rectified and masked logit: an edge keeps it, no edge makes it `⊥`. `a` is the bit of the edge. -/
theorem edge_logit (a : BitVec 1) (P : Prop) [Decidable P] (ha : a = if P then 1#1 else 0#1) (l : ℝ) :
    Scalar.select a
        (Scalar.select (FloatOps.cmpf (F := Ideal) (φ := .f32) .oge (l : EReal) (Ideal.ofBits .f32 0x00000000#32)) (l : EReal)
          (FloatOps.mulf (F := Ideal) (φ := .f32) (Ideal.ofBits .f32 0x3E4CCCCD#32) (l : EReal)))
        (Ideal.ofBits .f32 0xFF800000#32)
      = if P then ((leaky l : ℝ) : EReal) else ⊥ := by
  rw [zero_word, tilt_word, bot_word, leaky_cases, ha, Ideal.cmpf_def, Ideal.cmp_oge]
  by_cases hP : P
  · rw [if_pos hP, if_pos hP]
    by_cases hl : 0 ≤ l
    · rw [if_pos hl, decide_eq_true (EReal.coe_nonneg.mpr hl)]
      rfl
    · rw [if_neg hl, decide_eq_false fun h => hl (EReal.coe_nonneg.mp h), EReal.coe_mul]
      rfl
  · rw [if_neg hP, if_neg hP]
    rfl

/-- Attention along the edges: projection, logits, softmax over the sources of each destination, mean over the heads. Each
    hypothesis is one step of the reference. -/
theorem graph_attention (hadj : ∀ n, adj n n)
    {h : Fin 512 → Fin 4 → Fin 128 → EReal} {src dst top den : Fin 512 → Fin 4 → EReal}
    {lg e wt : Fin 512 → Fin 512 → Fin 4 → EReal} {mx : Fin 4 → Fin 512 → Fin 128 → EReal} {o : Fin 512 → Fin 128 → EReal}
    {a : Fin 512 → Fin 512 → BitVec 1} (ha : ∀ i j, a i j = if adj i j then 1#1 else 0#1)
    (hh : ∀ n k c, h n k c = ∑ q, (X n q : EReal) * (W q (feat k c) : EReal))
    (hsrc : ∀ n k, src n k = Ideal.ofBits .f32 0x00000000#32 + ∑ c, h n k c * (S k c : EReal))
    (hdst : ∀ n k, dst n k = Ideal.ofBits .f32 0x00000000#32 + ∑ c, h n k c * (D k c : EReal))
    (hlg : ∀ i j k, lg i j k = Scalar.select (a i j)
      (Scalar.select (FloatOps.cmpf (F := Ideal) (φ := .f32) .oge (src i k + dst j k) (Ideal.ofBits .f32 0x00000000#32))
        (src i k + dst j k)
        (FloatOps.mulf (F := Ideal) (φ := .f32) (Ideal.ofBits .f32 0x3E4CCCCD#32) (src i k + dst j k)))
      (Ideal.ofBits .f32 0xFF800000#32))
    (htop : ∀ j k, top j k = Finset.univ.sup fun i => lg i j k)
    (he : ∀ i j k, e i j k = Ideal.exp (lg i j k - top j k))
    (hden : ∀ j k, den j k = Ideal.ofBits .f32 0x00000000#32 + ∑ i, e i j k)
    (hwt : ∀ i j k, wt i j k = Ideal.div (e i j k) (den j k))
    (hmx : ∀ k j c, mx k j c = ∑ i, wt i j k * h i k c)
    (ho : ∀ j c, o j c = Ideal.div (Ideal.ofBits .f32 0x00000000#32 + ∑ k, mx k j c) (Ideal.ofBits .f32 0x40800000#32))
    (n : Fin 512) (f : Fin 128) : o n f = (graphMean adj (project X W) S D n f : EReal) := by
  have eh : ∀ n k c, h n k c = (project X W n (feat k c) : EReal) := fun n k c => by
    rw [hh, project, ← coe_sum]; simp only [EReal.coe_mul]
  have es : ∀ n k, src n k = (logit (project X W) S k n : EReal) := fun n k => by
    rw [hsrc, zero_word, zero_add, logit, ← coe_sum]; simp only [eh, EReal.coe_mul]
  have ed : ∀ n k, dst n k = (logit (project X W) D k n : EReal) := fun n k => by
    rw [hdst, zero_word, zero_add, logit, ← coe_sum]; simp only [eh, EReal.coe_mul]
  have el : ∀ i j k, lg i j k = masked (fun i => adj i j)
      (fun i => leaky (logit (project X W) S k i + logit (project X W) D k j)) i := fun i j k => by
    rw [hlg, es, ed, ← EReal.coe_add]
    exact edge_logit _ _ (ha i j) _
  have em : ∀ k, mx k n f = (attend (fun i => if adj i n then
      Real.exp (leaky (logit (project X W) S k i + logit (project X W) D k n)) else 0)
      (fun i => project X W i (feat k f)) : EReal) := fun k => by
    rw [hmx]
    simp only [hwt, hden, he, htop, el, eh, zero_word, zero_add]
    exact softmax_attention _ _ _ n (hadj n)
  rw [ho, zero_word, zero_add, four_word]
  simp only [em]
  rw [coe_sum, div_coe_coe _ _ (by norm_num), graphMean, div_eq_mul_one_div]

/-- The maximum over the sources, starting from `⊥`. -/
theorem source_max (x : FVec Ideal ⟨4, ![4, 512, 512, 4]⟩ .f32)
    (h' : (⟨4, ![4, 512, 512, 4]⟩ : Shape).ReducesTo [1] ⟨3, ![4, 512, 4]⟩) (hu : 0 < (⟨0, ![]⟩ : Shape).numel)
    (b : Fin 4) (j : Fin 512) (k : Fin 4) :
    Host.reduce FloatOps.maximumf x (constant (F := Ideal) (⟨0, ![]⟩ : Shape) .f32 0xFF800000#32) h' hu (ix3 b j k)
      = Finset.univ.sup fun i => x (ix4 b i j k) := by
  rw [Host.reduce_eq_fold_single FloatOps.maximumf x _ h' (by decide) hu]
  have hf : (x ∘ Shape.Reduces.lift (s := ⟨4, ![4, 512, 512, 4]⟩) (a := 1) (t := ⟨3, ![4, 512, 4]⟩) (by decide) (ix3 b j k))
      = fun i : Fin 512 => x (ix4 b i j k) :=
    funext fun i => congrArg x (funext fun a => Fin.ext (by match a with | ⟨0, _⟩ => rfl | ⟨1, _⟩ => rfl | ⟨2, _⟩ => rfl | ⟨3, _⟩ => rfl))
  rw [hf]
  show Finset.fold max (Ideal.ofBits .f32 0xFF800000#32) _ _ = _
  rw [bot_word]
  rfl

/-- The residual update: the features next to the rectified message, a matrix product, a bias and the features again. -/
theorem dense_update {x o y : Fin 512 → Fin 128 → EReal} {cat : Fin 512 → Fin 256 → EReal}
    {b v : Fin 128 → EReal} {w : Fin 256 → Fin 128 → EReal}
    (hx : ∀ n q, cat n (upper q) = x n q)
    (hm : ∀ n q, cat n (lower q) = max (o n q + b q) (Ideal.ofBits .f32 0x00000000#32))
    (hy : ∀ n f, y n f = x n f + ((∑ q, cat n q * w q f) + v f)) (n : Fin 512) (f : Fin 128) :
    y n f = renew (x n) (o n) b w v f := by
  rw [hy, sum_rows]
  simp only [hx, hm, zero_word]
  rfl

end Cert.Gat

end
-- ==== Proof.ReferenceRead.lean ====
/- The reference's two layers on one batch member, from the steps read in Gen/ReferenceIdeal/Read.lean. -/
module

public import proofs.«01_k».proof.Proof.Dense

@[expose] public section

noncomputable section

namespace Cert.Gat

open Idealize.ShloMosaic hiding ix1 ix2 ix3 ix4 eq_ix1 eq_ix2 eq_ix3 eq_ix4
open Cert.ReferenceIdeal Cert.ReferenceIdeal.Gen Cert.ReferenceIdeal.Read Idealize.ShloMosaic.ValueIdx

/-! ## Indices and words -/

/-- A vector read at an index with a known component. -/
theorem at1 {n0 : Nat} {α : Sort*} (y : (⟨1, ![n0]⟩ : Shape).Idx → α) (p) {a} (ha : p 0 = a) : y p = y (ix1 a) := by
  subst ha
  exact congrArg y (eq_ix1 p)

/-- A matrix read at an index with known components. -/
theorem at2 {n0 n1 : Nat} {α : Sort*} (y : (⟨2, ![n0, n1]⟩ : Shape).Idx → α) (p) {a b} (ha : p 0 = a) (hb : p 1 = b) :
    y p = y (ix2 a b) := by
  subst ha hb
  exact congrArg y (eq_ix2 p)

/-- An array of rank three read at an index with known components. -/
theorem at3 {n0 n1 n2 : Nat} {α : Sort*} (y : (⟨3, ![n0, n1, n2]⟩ : Shape).Idx → α) (p) {a b c} (ha : p 0 = a) (hb : p 1 = b)
    (hc : p 2 = c) : y p = y (ix3 a b c) := by
  subst ha hb hc
  exact congrArg y (eq_ix3 p)

/-- An array of rank four read at an index with known components. -/
theorem at4 {n0 n1 n2 n3 : Nat} {α : Sort*} (y : (⟨4, ![n0, n1, n2, n3]⟩ : Shape).Idx → α) (p) {a b c d} (ha : p 0 = a)
    (hb : p 1 = b) (hc : p 2 = c) (hd : p 3 = d) : y p = y (ix4 a b c d) := by
  subst ha hb hc hd
  exact congrArg y (eq_ix4 p)

/-- Where the projection's entry for head `k` and channel `c` lies before the heads are told apart. -/
theorem position (b : Fin 4) (n : Fin 512) (k : Fin 4) (c : Fin 128) :
    (((b.val * 512 + n.val) * 4 + k.val) * 128 + c.val) / 262144 = b.val
      ∧ (((b.val * 512 + n.val) * 4 + k.val) * 128 + c.val) / 512 % 512 = n.val
      ∧ (((b.val * 512 + n.val) * 4 + k.val) * 128 + c.val) % 512 = 128 * k.val + c.val := by
  omega

/-- A node number below 256, decided on its word. -/
theorem below_word (i : Fin 512) :
    IntOp.cmpi .slt (BitVec.ofNat 32 i.val) 256#32 = if i.val < 256 then 1#1 else 0#1 := by
  revert i
  decide +kernel

/-- Two truth bits are equal where the propositions agree. -/
theorem bit_eq (P Q : Prop) [Decidable P] [Decidable Q] :
    IntOp.cmpi .eq (if P then 1#1 else 0#1) (if Q then 1#1 else 0#1) = if P ↔ Q then 1#1 else 0#1 := by
  by_cases hP : P <;> by_cases hQ : Q <;> simp [hP, hQ, IntOp.cmpi]

/-- The bits of `not P or Q`. -/
theorem bit_or (P Q : Prop) [Decidable P] [Decidable Q] :
    IntOp.ori (~~~(if P then 1#1 else 0#1)) (if Q then 1#1 else 0#1) = if ¬P ∨ Q then 1#1 else 0#1 := by
  by_cases hP : P <;> by_cases hQ : Q <;> simp [hP, hQ, IntOp.ori]

/-- Equal node numbers, decided on their words. -/
theorem equal_word (i j : Fin 512) :
    IntOp.cmpi .eq (BitVec.ofNat 32 i.val) (BitVec.ofNat 32 j.val) = if i = j then 1#1 else 0#1 := by
  have h : BitVec.ofNat 32 i.val = BitVec.ofNat 32 j.val ↔ i = j := by
    constructor
    · intro e
      have e' := congrArg BitVec.toNat e
      rw [BitVec.toNat_ofNat, BitVec.toNat_ofNat, Nat.mod_eq_of_lt (by omega), Nat.mod_eq_of_lt (by omega)] at e'
      exact Fin.ext e'
    · rintro rfl
      rfl
  by_cases hij : i = j
  · rw [if_pos hij, hij]
    simp [IntOp.cmpi]
  · rw [if_neg hij]
    simp [IntOp.cmpi, beq_false_of_ne fun e => hij (h.mp e)]

/-- The first adjacency matrix holds the edges inside the sets. -/
theorem same_bit (i j : Fin 512) : val_main_v8 (F := Ideal) (ix2 i j) = if Same i j then 1#1 else 0#1 :=
  (congrArg₂ (IntOp.cmpi .eq) (below_word i) (below_word j)).trans (bit_eq _ _)

/-- The second adjacency matrix holds the edges across and the self loops. -/
theorem across_bit (i j : Fin 512) : val_main_v60 (F := Ideal) (ix2 i j) = if Across i j then 1#1 else 0#1 := by
  exact (congrArg₂ IntOp.ori (congrArg (fun b => ~~~b) (same_bit i j)) (equal_word i j)).trans (bit_or _ _)

/-! ## Joined arrays -/

/-- The features of a node and its message, joined: the first 128 are the features, -/
theorem joined_upper (y z : FVec Ideal S4x512x128 .f32) (b : Fin 4) (n : Fin 512) (q : Fin 128) :
    concatenate S4x512x256 2 [⟨S4x512x128, y⟩, ⟨S4x512x128, z⟩] concatenates_S4x512x128_S4x512x128_S4x512x256_d2
      (ix3 b n (upper q)) = y (ix3 b n q) :=
  concatenate_pair_apply_left 2 y z _ (ix3 b n (upper q)) rfl (ix3 b n q) fun a => by
    match a with | ⟨0, _⟩ => rfl | ⟨1, _⟩ => rfl | ⟨2, _⟩ => rfl

/-- and the last 128 are the message. -/
theorem joined_lower (y z : FVec Ideal S4x512x128 .f32) (b : Fin 4) (n : Fin 512) (q : Fin 128) :
    concatenate S4x512x256 2 [⟨S4x512x128, y⟩, ⟨S4x512x128, z⟩] concatenates_S4x512x128_S4x512x128_S4x512x256_d2
      (ix3 b n (lower q)) = z (ix3 b n q) :=
  concatenate_pair_apply_right 2 y z _ (ix3 b n (lower q)) rfl rfl (ix3 b n q)
    (fun a ha => by match a with | ⟨0, _⟩ => rfl | ⟨1, _⟩ => rfl | ⟨2, _⟩ => exact absurd rfl ha)
    (Nat.add_comm q.val 128)

/-- The nodes of both sets: the first 256 are the first set's, -/
theorem joined_lo (y z : FVec Ideal S4x128x256 .f32) (b : Fin 4) (n : Fin 256) (q : Fin 128) :
    val_main_v1 (F := Ideal) y z (ix3 b (lo n) q) = y (ix3 b q n) := by
  rw [val_main_v1_apply, val_main_v0]
  exact concatenate_pair_apply_left 2 y z _ (idx_main_v1 (ix3 b (lo n) q)) rfl (ix3 b q n) fun a => by
    match a with | ⟨0, _⟩ => rfl | ⟨1, _⟩ => rfl | ⟨2, _⟩ => rfl

/-- and the last 256 are the second set's. -/
theorem joined_hi (y z : FVec Ideal S4x128x256 .f32) (b : Fin 4) (n : Fin 256) (q : Fin 128) :
    val_main_v1 (F := Ideal) y z (ix3 b (hi n) q) = z (ix3 b q n) := by
  rw [val_main_v1_apply, val_main_v0]
  exact concatenate_pair_apply_right 2 y z _ (idx_main_v1 (ix3 b (hi n) q)) rfl rfl (ix3 b q n)
    (fun a ha => by match a with | ⟨0, _⟩ => rfl | ⟨1, _⟩ => rfl | ⟨2, _⟩ => exact absurd rfl ha)
    (Nat.add_comm n.val 256)

/-! ## The first layer -/

section First

variable (x0 x1 : FVec Ideal S4x128x256 .f32) (x2 : FVec Ideal S128x512 .f32) (x3 x4 : FVec Ideal S4x128 .f32)
  (x5 : FVec Ideal S128 .f32) (x6 : FVec Ideal S256x128 .f32) (x7 : FVec Ideal S128 .f32) (b : Fin 4)
variable {X : Fin 512 → Fin 128 → ℝ} {W : Fin 128 → Fin 512 → ℝ} {S D : Fin 4 → Fin 128 → ℝ}

/-- The reference's first attention is the mean over the graph inside the sets. -/
theorem attention_first (hX : ∀ n q, val_main_v1 (F := Ideal) x0 x1 (ix3 b n q) = (X n q : EReal))
    (hW : ∀ q j, x2 (ix2 q j) = (W q j : EReal)) (hS : ∀ k c, x3 (ix2 k c) = (S k c : EReal))
    (hD : ∀ k c, x4 (ix2 k c) = (D k c : EReal)) (n : Fin 512) (f : Fin 128) :
    val_main_v40 (F := Ideal) x0 x1 x2 x3 x4 (ix3 b n f) = (graphMean Same (project X W) S D n f : EReal) := by
  refine graph_attention (fun _ => Iff.rfl)
    (h := fun n k c => val_main_v10 (F := Ideal) x0 x1 x2 (ix4 b n k c))
    (src := fun n k => val_main_v14 (F := Ideal) x0 x1 x2 x3 (ix3 b n k))
    (dst := fun n k => val_main_v18 (F := Ideal) x0 x1 x2 x4 (ix3 b n k))
    (lg := fun i j k => val_main_v26 (F := Ideal) x0 x1 x2 x3 x4 (ix4 b i j k))
    (top := fun j k => val_main_v27 (F := Ideal) x0 x1 x2 x3 x4 (ix3 b j k))
    (e := fun i j k => val_main_v31 (F := Ideal) x0 x1 x2 x3 x4 (ix4 b i j k))
    (den := fun j k => val_main_v32 (F := Ideal) x0 x1 x2 x3 x4 (ix3 b j k))
    (wt := fun i j k => val_main_v35 (F := Ideal) x0 x1 x2 x3 x4 (ix4 b i j k))
    (mx := fun k j c => val_main_v36 (F := Ideal) x0 x1 x2 x3 x4 (ix4 b k j c))
    (o := fun j c => val_main_v40 (F := Ideal) x0 x1 x2 x3 x4 (ix3 b j c))
    same_bit ?_ ?_ ?_ ?_ ?_ ?_ ?_ ?_ ?_ ?_ n f
  · intro n k c
    rw [val_main_v10_apply, val_main_v9_apply]
    refine Finset.sum_congr rfl fun q _ => ?_
    rw [← hX, ← hW]
    have e := position b n k c
    exact congrArg₂ (· * ·) (at3 _ _ (Fin.ext e.1) (Fin.ext e.2.1) rfl) (at2 _ _ rfl (Fin.ext e.2.2))
  · intro n k
    rw [val_main_v14_apply]
    refine congrArg₂ (· + ·) rfl (Finset.sum_congr rfl fun c _ => ?_)
    rw [val_main_v13_apply, val_main_v12_apply, val_main_v11_apply, ← hS]
    exact congrArg₂ (· * ·) (at4 _ _ rfl rfl rfl rfl) (at2 _ _ rfl rfl)
  · intro n k
    rw [val_main_v18_apply]
    refine congrArg₂ (· + ·) rfl (Finset.sum_congr rfl fun c _ => ?_)
    rw [val_main_v17_apply, val_main_v16_apply, val_main_v15_apply, ← hD]
    exact congrArg₂ (· * ·) (at4 _ _ rfl rfl rfl rfl) (at2 _ _ rfl rfl)
  · intro i j k
    rw [val_main_v26_apply, val_main_call1_v1_apply, val_main_v25_apply, val_main_v24_apply, val_main_call0_v1_apply,
      val_main_call0_v4_apply, val_main_v23_apply, val_main_v21_apply, val_main_v19_apply, val_main_v22_apply,
      val_main_v20_apply, at2 (val_main_v8 (F := Ideal)) _ rfl rfl, at3 (val_main_v14 (F := Ideal) x0 x1 x2 x3) _ rfl rfl rfl,
      at3 (val_main_v18 (F := Ideal) x0 x1 x2 x4) _ rfl rfl rfl]
    rfl
  · intro j k
    exact source_max _ _ _ b j k
  · intro i j k
    rw [val_main_v31_apply, val_main_v30_apply, val_main_v29_apply, val_main_v28_apply,
      at3 (val_main_v27 (F := Ideal) x0 x1 x2 x3 x4) _ rfl rfl rfl]
    rfl
  · intro j k
    rw [val_main_v32_apply]
    exact congrArg₂ (· + ·) rfl (Finset.sum_congr rfl fun i _ => at4 _ _ rfl rfl rfl rfl)
  · intro i j k
    rw [val_main_v35_apply, val_main_v34_apply, val_main_v33_apply,
      at3 (val_main_v32 (F := Ideal) x0 x1 x2 x3 x4) _ rfl rfl rfl]
    rfl
  · intro k j c
    rw [val_main_v36_apply]
    exact Finset.sum_congr rfl fun i _ => congrArg₂ (· * ·) (at4 _ _ rfl rfl rfl rfl) (at4 _ _ rfl rfl rfl rfl)
  · intro j c
    rw [val_main_v40_apply, val_main_v38_apply]
    refine congrArg₂ Ideal.div (congrArg₂ (· + ·) rfl (Finset.sum_congr rfl fun k _ => ?_)) rfl
    rw [val_main_v37_apply]
    exact at4 _ _ rfl rfl rfl rfl

/-- The first layer's new features. -/
theorem update_first (n : Fin 512) (f : Fin 128) :
    val_main_v50 (F := Ideal) x0 x1 x2 x3 x4 x5 x6 x7 (ix3 b n f)
      = renew (fun q => val_main_v1 (F := Ideal) x0 x1 (ix3 b n q))
          (fun q => val_main_v40 (F := Ideal) x0 x1 x2 x3 x4 (ix3 b n q)) (fun q => x5 (ix1 q)) (fun q f => x6 (ix2 q f))
          (fun q => x7 (ix1 q)) f := by
  refine dense_update (x := fun n q => val_main_v1 (F := Ideal) x0 x1 (ix3 b n q))
    (o := fun n q => val_main_v40 (F := Ideal) x0 x1 x2 x3 x4 (ix3 b n q))
    (y := fun n f => val_main_v50 (F := Ideal) x0 x1 x2 x3 x4 x5 x6 x7 (ix3 b n f))
    (cat := fun n q => val_main_v45 (F := Ideal) x0 x1 x2 x3 x4 x5 (ix3 b n q))
    (fun n q => joined_upper _ _ b n q) (fun n q => ?_) (fun n f => ?_) n f
  · refine (joined_lower _ _ b n q).trans ?_
    rw [val_main_v44_apply, val_main_v43_apply, val_main_v42_apply, val_main_v41_apply, at1 x5 _ rfl]
    rfl
  · rw [val_main_v50_apply, val_main_v49_apply, val_main_v46_apply, val_main_v48_apply, val_main_v47_apply, at1 x7 _ rfl]
    refine congrArg₂ (· + ·) rfl (congrArg₂ (· + ·) (Finset.sum_congr rfl fun q _ => ?_) rfl)
    exact congrArg₂ (· * ·) (at3 _ _ rfl rfl rfl) (at2 _ _ rfl rfl)

end First

/-! ## The second layer -/

section Second

variable (x0 x1 : FVec Ideal S4x128x256 .f32) (x2 : FVec Ideal S128x512 .f32) (x3 x4 : FVec Ideal S4x128 .f32)
  (x5 : FVec Ideal S128 .f32) (x6 : FVec Ideal S256x128 .f32) (x7 : FVec Ideal S128 .f32)
  (x8 : FVec Ideal S128x512 .f32) (x9 x10 : FVec Ideal S4x128 .f32)
  (x11 : FVec Ideal S128 .f32) (x12 : FVec Ideal S256x128 .f32) (x13 : FVec Ideal S128 .f32) (b : Fin 4)
variable {X : Fin 512 → Fin 128 → ℝ} {W : Fin 128 → Fin 512 → ℝ} {S D : Fin 4 → Fin 128 → ℝ}

/-- The reference's second attention is the mean over the graph across. -/
theorem attention_second (hX : ∀ n q, val_main_v50 (F := Ideal) x0 x1 x2 x3 x4 x5 x6 x7 (ix3 b n q) = (X n q : EReal))
    (hW : ∀ q j, x8 (ix2 q j) = (W q j : EReal)) (hS : ∀ k c, x9 (ix2 k c) = (S k c : EReal))
    (hD : ∀ k c, x10 (ix2 k c) = (D k c : EReal)) (n : Fin 512) (f : Fin 128) :
    val_main_v92 (F := Ideal) x0 x1 x2 x3 x4 x5 x6 x7 x8 x9 x10 (ix3 b n f) = (graphMean Across (project X W) S D n f : EReal) := by
  refine graph_attention (fun _ => .inr rfl)
    (h := fun n k c => val_main_v62 (F := Ideal) x0 x1 x2 x3 x4 x5 x6 x7 x8 (ix4 b n k c))
    (src := fun n k => val_main_v66 (F := Ideal) x0 x1 x2 x3 x4 x5 x6 x7 x8 x9 (ix3 b n k))
    (dst := fun n k => val_main_v70 (F := Ideal) x0 x1 x2 x3 x4 x5 x6 x7 x8 x10 (ix3 b n k))
    (lg := fun i j k => val_main_v78 (F := Ideal) x0 x1 x2 x3 x4 x5 x6 x7 x8 x9 x10 (ix4 b i j k))
    (top := fun j k => val_main_v79 (F := Ideal) x0 x1 x2 x3 x4 x5 x6 x7 x8 x9 x10 (ix3 b j k))
    (e := fun i j k => val_main_v83 (F := Ideal) x0 x1 x2 x3 x4 x5 x6 x7 x8 x9 x10 (ix4 b i j k))
    (den := fun j k => val_main_v84 (F := Ideal) x0 x1 x2 x3 x4 x5 x6 x7 x8 x9 x10 (ix3 b j k))
    (wt := fun i j k => val_main_v87 (F := Ideal) x0 x1 x2 x3 x4 x5 x6 x7 x8 x9 x10 (ix4 b i j k))
    (mx := fun k j c => val_main_v88 (F := Ideal) x0 x1 x2 x3 x4 x5 x6 x7 x8 x9 x10 (ix4 b k j c))
    (o := fun j c => val_main_v92 (F := Ideal) x0 x1 x2 x3 x4 x5 x6 x7 x8 x9 x10 (ix3 b j c))
    across_bit ?_ ?_ ?_ ?_ ?_ ?_ ?_ ?_ ?_ ?_ n f
  · intro n k c
    rw [val_main_v62_apply, val_main_v61_apply]
    refine Finset.sum_congr rfl fun q _ => ?_
    rw [← hX, ← hW]
    have e := position b n k c
    exact congrArg₂ (· * ·) (at3 _ _ (Fin.ext e.1) (Fin.ext e.2.1) rfl) (at2 _ _ rfl (Fin.ext e.2.2))
  · intro n k
    rw [val_main_v66_apply]
    refine congrArg₂ (· + ·) rfl (Finset.sum_congr rfl fun c _ => ?_)
    rw [val_main_v65_apply, val_main_v64_apply, val_main_v63_apply, ← hS]
    exact congrArg₂ (· * ·) (at4 _ _ rfl rfl rfl rfl) (at2 _ _ rfl rfl)
  · intro n k
    rw [val_main_v70_apply]
    refine congrArg₂ (· + ·) rfl (Finset.sum_congr rfl fun c _ => ?_)
    rw [val_main_v69_apply, val_main_v68_apply, val_main_v67_apply, ← hD]
    exact congrArg₂ (· * ·) (at4 _ _ rfl rfl rfl rfl) (at2 _ _ rfl rfl)
  · intro i j k
    rw [val_main_v78_apply, val_main_call4_v1_apply, val_main_v77_apply, val_main_v76_apply, val_main_call3_v1_apply,
      val_main_call3_v4_apply, val_main_v75_apply, val_main_v73_apply, val_main_v71_apply, val_main_v74_apply,
      val_main_v72_apply, at2 (val_main_v60 (F := Ideal)) _ rfl rfl, at3 (val_main_v66 (F := Ideal) x0 x1 x2 x3 x4 x5 x6 x7 x8 x9) _ rfl rfl rfl,
      at3 (val_main_v70 (F := Ideal) x0 x1 x2 x3 x4 x5 x6 x7 x8 x10) _ rfl rfl rfl]
    rfl
  · intro j k
    exact source_max _ _ _ b j k
  · intro i j k
    rw [val_main_v83_apply, val_main_v82_apply, val_main_v81_apply, val_main_v80_apply,
      at3 (val_main_v79 (F := Ideal) x0 x1 x2 x3 x4 x5 x6 x7 x8 x9 x10) _ rfl rfl rfl]
    rfl
  · intro j k
    rw [val_main_v84_apply]
    exact congrArg₂ (· + ·) rfl (Finset.sum_congr rfl fun i _ => at4 _ _ rfl rfl rfl rfl)
  · intro i j k
    rw [val_main_v87_apply, val_main_v86_apply, val_main_v85_apply,
      at3 (val_main_v84 (F := Ideal) x0 x1 x2 x3 x4 x5 x6 x7 x8 x9 x10) _ rfl rfl rfl]
    rfl
  · intro k j c
    rw [val_main_v88_apply]
    exact Finset.sum_congr rfl fun i _ => congrArg₂ (· * ·) (at4 _ _ rfl rfl rfl rfl) (at4 _ _ rfl rfl rfl rfl)
  · intro j c
    rw [val_main_v92_apply, val_main_v90_apply]
    refine congrArg₂ Ideal.div (congrArg₂ (· + ·) rfl (Finset.sum_congr rfl fun k _ => ?_)) rfl
    rw [val_main_v89_apply]
    exact at4 _ _ rfl rfl rfl rfl

/-- The second layer's new features. -/
theorem update_second (n : Fin 512) (f : Fin 128) :
    val_main_v102 (F := Ideal) x0 x1 x2 x3 x4 x5 x6 x7 x8 x9 x10 x11 x12 x13 (ix3 b n f)
      = renew (fun q => val_main_v50 (F := Ideal) x0 x1 x2 x3 x4 x5 x6 x7 (ix3 b n q))
          (fun q => val_main_v92 (F := Ideal) x0 x1 x2 x3 x4 x5 x6 x7 x8 x9 x10 (ix3 b n q)) (fun q => x11 (ix1 q)) (fun q f => x12 (ix2 q f))
          (fun q => x13 (ix1 q)) f := by
  refine dense_update (x := fun n q => val_main_v50 (F := Ideal) x0 x1 x2 x3 x4 x5 x6 x7 (ix3 b n q))
    (o := fun n q => val_main_v92 (F := Ideal) x0 x1 x2 x3 x4 x5 x6 x7 x8 x9 x10 (ix3 b n q))
    (y := fun n f => val_main_v102 (F := Ideal) x0 x1 x2 x3 x4 x5 x6 x7 x8 x9 x10 x11 x12 x13 (ix3 b n f))
    (cat := fun n q => val_main_v97 (F := Ideal) x0 x1 x2 x3 x4 x5 x6 x7 x8 x9 x10 x11 (ix3 b n q))
    (fun n q => joined_upper _ _ b n q) (fun n q => ?_) (fun n f => ?_) n f
  · refine (joined_lower _ _ b n q).trans ?_
    rw [val_main_v96_apply, val_main_v95_apply, val_main_v94_apply, val_main_v93_apply, at1 x11 _ rfl]
    rfl
  · rw [val_main_v102_apply, val_main_v101_apply, val_main_v98_apply, val_main_v100_apply, val_main_v99_apply, at1 x13 _ rfl]
    refine congrArg₂ (· + ·) rfl (congrArg₂ (· + ·) (Finset.sum_congr rfl fun q _ => ?_) rfl)
    exact congrArg₂ (· * ·) (at3 _ _ rfl rfl rfl) (at2 _ _ rfl rfl)

end Second

end Cert.Gat

end
-- ==== Proof.ReferenceValue.lean ====
/- The reference's two results, read at an index: the answer of Proof/Inputs.lean on its arguments. -/
module

public import proofs.«01_k».proof.Proof.ReferenceRead

@[expose] public section

noncomputable section

namespace Cert.Gat

open Idealize.ShloMosaic hiding ix1 ix2 ix3 ix4 eq_ix1 eq_ix2 eq_ix3 eq_ix4
open Cert.ReferenceIdeal Cert.ReferenceIdeal.Gen Cert.ReferenceIdeal.Read Idealize.ShloMosaic.ValueIdx

/-- The nodes of both sets. -/
def both (Y Z : Fin 256 → Fin 128 → ℝ) (n : Fin 512) (q : Fin 128) : ℝ :=
  if h : n.val < 256 then Y ⟨n.val, h⟩ q else Z ⟨n.val - 256, by omega⟩ q

/-- The first half of the joined nodes. -/
theorem both_lo (Y Z : Fin 256 → Fin 128 → ℝ) (i : Fin 256) : both Y Z (lo i) = Y i := by
  funext q
  exact dif_pos i.isLt

/-- The second half of the joined nodes. -/
theorem both_hi (Y Z : Fin 256 → Fin 128 → ℝ) (i : Fin 256) : both Y Z (hi i) = Z i := by
  funext q
  refine (dif_neg (show ¬ 256 + i.val < 256 by omega)).trans (congrArg (fun j => Z j q) (Fin.ext ?_))
  exact Nat.add_sub_cancel_left 256 i.val

/-- A node is in one of the two sets. -/
theorem node_cases (P : Fin 512 → Prop) (h0 : ∀ i, P (lo i)) (h1 : ∀ i, P (hi i)) (n : Fin 512) : P n := by
  by_cases h : n.val < 256
  · exact h0 ⟨n.val, h⟩
  · have e : hi ⟨n.val - 256, by omega⟩ = n := Fin.ext (show 256 + (n.val - 256) = n.val by omega)
    exact e ▸ h1 ⟨n.val - 256, by omega⟩

/-- The projection of the first half of the joined nodes. -/
theorem project_lo (Y Z : Fin 256 → Fin 128 → ℝ) (W : Fin 128 → Fin 512 → ℝ) :
    (fun i => project (both Y Z) W (lo i)) = project Y W := by
  funext i j
  simp only [project, both_lo]

/-- The projection of the second half of the joined nodes. -/
theorem project_hi (Y Z : Fin 256 → Fin 128 → ℝ) (W : Fin 128 → Fin 512 → ℝ) :
    (fun i => project (both Y Z) W (hi i)) = project Z W := by
  funext i j
  simp only [project, both_hi]

/-- The first attention at a node of the first set. -/
theorem mean_lo (Y Z : Fin 256 → Fin 128 → ℝ) (W : Fin 128 → Fin 512 → ℝ) (S D : Fin 4 → Fin 128 → ℝ) (i : Fin 256) :
    graphMean Same (project (both Y Z) W) S D (lo i) = selfMean (project Y W) S D i := by
  funext f
  rw [graphMean_same_lo, project_lo]

/-- The first attention at a node of the second set. -/
theorem mean_hi (Y Z : Fin 256 → Fin 128 → ℝ) (W : Fin 128 → Fin 512 → ℝ) (S D : Fin 4 → Fin 128 → ℝ) (i : Fin 256) :
    graphMean Same (project (both Y Z) W) S D (hi i) = selfMean (project Z W) S D i := by
  funext f
  rw [graphMean_same_hi, project_hi]

variable {I : Inputs} {p : Params} {X0 X1 : Points}

/-- The features of all nodes, as the reference joins them. -/
theorem joined_real (H : I.Held p X0 X1) (b : Fin 4) (n : Fin 512) (q : Fin 128) :
    val_main_v1 (F := Ideal) I.x0 I.x1 (ix3 b n q) = (both (X0 b) (X1 b) n q : EReal) := by
  revert n
  refine node_cases _ (fun i => ?_) fun i => ?_
  · rw [joined_lo, H.x0, both_lo]
  · rw [joined_hi, H.x1, both_hi]

/-- The features after the first layer. -/
theorem first_real (H : I.Held p X0 X1) (b : Fin 4) (n : Fin 512) (q : Fin 128) :
    val_main_v50 (F := Ideal) I.x0 I.x1 I.W0 I.S0 I.D0 I.b0 I.w0 I.v0 (ix3 b n q)
      = (both (p.first (X0 b)) (p.first (X1 b)) n q : EReal) := by
  rw [update_first]
  simp only [joined_real H, attention_first I.x0 I.x1 I.W0 I.S0 I.D0 b (joined_real H b) H.W0 H.S0 H.D0, H.b0, H.w0, H.v0]
  rw [renew_coe]
  revert n
  refine node_cases _ (fun i => ?_) fun i => ?_
  · simp only [mean_lo, both_lo]
    rfl
  · simp only [mean_hi, both_hi]
    rfl

/-- The features after the second layer, a node of the first set -/
theorem second_lo (H : I.Held p X0 X1) (b : Fin 4) (n : Fin 256) (f : Fin 128) :
    val_main_v102 (F := Ideal) I.x0 I.x1 I.W0 I.S0 I.D0 I.b0 I.w0 I.v0 I.W1 I.S1 I.D1 I.b1 I.w1 I.v1 (ix3 b (lo n) f)
      = I.answer p X1 X0 b f n := by
  rw [update_second]
  simp only [first_real H, attention_second I.x0 I.x1 I.W0 I.S0 I.D0 I.b0 I.w0 I.v0 I.W1 I.S1 I.D1 b (first_real H b) H.W1
    H.S1 H.D1, graphMean_across_lo, project_lo, project_hi, both_lo]
  rfl

/-- and a node of the second set. -/
theorem second_hi (H : I.Held p X0 X1) (b : Fin 4) (n : Fin 256) (f : Fin 128) :
    val_main_v102 (F := Ideal) I.x0 I.x1 I.W0 I.S0 I.D0 I.b0 I.w0 I.v0 I.W1 I.S1 I.D1 I.b1 I.w1 I.v1 (ix3 b (hi n) f)
      = I.answer p X0 X1 b f n := by
  rw [update_second]
  simp only [first_real H, attention_second I.x0 I.x1 I.W0 I.S0 I.D0 I.b0 I.w0 I.v0 I.W1 I.S1 I.D1 b (first_real H b) H.W1
    H.S1 H.D1, graphMean_across_hi, project_lo, project_hi, both_hi]
  rfl

/-- The first result. -/
theorem reference_first (H : I.Held p X0 X1) (b : Fin 4) (f : Fin 128) (n : Fin 256) :
    val_main_v104 (F := Ideal) I.x0 I.x1 I.W0 I.S0 I.D0 I.b0 I.w0 I.v0 I.W1 I.S1 I.D1 I.b1 I.w1 I.v1 (ix3 b f n)
      = I.answer p X1 X0 b f n := by
  rw [val_main_v104_apply, val_main_v103_apply]
  exact (at3 _ _ rfl rfl rfl).trans (second_lo H b n f)

/-- The second result. -/
theorem reference_second (H : I.Held p X0 X1) (b : Fin 4) (f : Fin 128) (n : Fin 256) :
    val_main_v105 (F := Ideal) I.x0 I.x1 I.W0 I.S0 I.D0 I.b0 I.w0 I.v0 I.W1 I.S1 I.D1 I.b1 I.w1 I.v1 (ix3 b f n)
      = I.answer p X0 X1 b f n := by
  rw [val_main_v105_apply, val_main_v103_apply]
  exact (at3 _ _ rfl rfl rfl).trans (second_hi H b n f)

end Cert.Gat

end
-- ==== Proof.Finite.lean ====
/- The precondition read: the arguments it names hold numbers. -/
module

public import proofs.«01_k».proof.Proof.ReferenceValue
public import proofs.«01_k».proof.Pre_finite_inputs
public import Idealize.ShloMosaic.Lib.ReduceAll

@[expose] public section

noncomputable section

namespace Cert.Gat

open Idealize.ShloMosaic

/-- The shape facts the precondition states. -/
instance finite_inputs_facts : Cert.Pre_finite_inputs.Facts where
  bcast_S_S4x128x256 := by decide
  reducesTo_S4x128x256_S_d0_1_2 := by decide
  h_S_ := by decide
  bcast_S_S128x512 := by decide
  reducesTo_S128x512_S_d0_1 := by decide
  bcast_S_S4x128 := by decide
  reducesTo_S4x128_S_d0_1 := by decide
  bcast_S_S128 := by decide
  reducesTo_S128_S_d0 := by decide
  bcast_S_S256x128 := by decide
  reducesTo_S256x128_S_d0_1 := by decide

/-- A value whose size is below `⊤` is a number. -/
theorem number_of_size (x : EReal) (h : Ideal.cmp .olt (max x (-x)) (Ideal.ofBits .f32 0x7F800000#32) = 1#1) :
    x ≠ ⊤ ∧ x ≠ ⊥ := by
  rw [top_word] at h
  have hlt := (Ideal.cmp_olt_eq_one _ _).mp h
  refine ⟨?_, ?_⟩ <;> rintro rfl <;> simp at hlt

/-- A conjunction of bits is 1 only where both are. -/
theorem and_split {a b : BitVec 1} (h : IntOp.andi a b = 1#1) : a = 1#1 ∧ b = 1#1 := by
  revert a b
  decide

/-- A scalar has one index. -/
instance : Subsingleton (Cert.Pre_finite_inputs.S_).Idx := ⟨fun _ _ => funext fun a => a.elim0⟩

/-- The precondition's test of one array. -/
theorem numbers_of_test {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel) (j)
    (h : Host.reduce IntOp.andi
      (cmpf .olt (Host.absf x) (broadcastInDim s ![] hb (constant Cert.Pre_finite_inputs.S_ .f32 0x7F800000#32)))
      (constantI Cert.Pre_finite_inputs.S_ 1 1#1) hr hu j = 1#1) : Numbers x := fun i =>
  number_of_size (x i) (Host.reduce_andi_all _ _ hr hu j h i)

/-- Under the precondition the arguments hold real numbers. -/
theorem held_of_finite (I : Inputs)
    (h : Cert.Pre_finite_inputs.fn (F := Ideal) I.x0 I.x1 I.W0 I.S0 I.D0 I.b0 I.w0 I.v0 I.W1 I.S1 I.D1 I.b1 I.w1 I.v1
      = fun _ => 1#1) : I.Held I.params (points I.x0) (points I.x1) := by
  have h0 := congrFun h fun a => a.elim0
  obtain ⟨h0, hD1⟩ := and_split h0
  obtain ⟨h0, hS1⟩ := and_split h0
  obtain ⟨h0, hW1⟩ := and_split h0
  obtain ⟨h0, hv0⟩ := and_split h0
  obtain ⟨h0, hw0⟩ := and_split h0
  obtain ⟨h0, hb0⟩ := and_split h0
  obtain ⟨h0, hD0⟩ := and_split h0
  obtain ⟨h0, hS0⟩ := and_split h0
  obtain ⟨h0, hW0⟩ := and_split h0
  obtain ⟨hx0, hx1⟩ := and_split h0
  exact I.held (numbers_of_test _ _ _ _ _ hx0) (numbers_of_test _ _ _ _ _ hx1) (numbers_of_test _ _ _ _ _ hW0)
    (numbers_of_test _ _ _ _ _ hS0) (numbers_of_test _ _ _ _ _ hD0) (numbers_of_test _ _ _ _ _ hb0)
    (numbers_of_test _ _ _ _ _ hw0) (numbers_of_test _ _ _ _ _ hv0) (numbers_of_test _ _ _ _ _ hW1)
    (numbers_of_test _ _ _ _ _ hS1) (numbers_of_test _ _ _ _ _ hD1)

end Cert.Gat

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Finite
public import Idealize.ShloMosaic.Adequacy
public import Idealize.ShloMosaic.Init

@[expose] public section

noncomputable section

namespace Cert.Proof

open Idealize.ShloMosaic hiding ix1 ix2 ix3 ix4 eq_ix1 eq_ix2 eq_ix3 eq_ix4
open Idealize.ShloMosaic.ValueIdx Idealize.SL.Sem Cert.Gat

/-- The reference leaves its arguments as they were, and every counter at zero, from any memory. -/
theorem reference_frame : Cert.quiescent_ReferenceIdeal (hReferenceIdeal := Cert.ReferenceIdeal.Gen.facts) :=
  fun m ρ _ => (θ_run Cert.ReferenceIdeal.defs _ _).mono
    (fun r h => ⟨fun c => (h c).2.2, sem_eq_zero_of_no_sems (by decide) r.2⟩) (Cert.ReferenceIdeal.Value.run m ρ)

/-- The reference's arguments in a memory. -/
def referenceInputs (m : (ℓ : Loc Cert.ReferenceIdeal.nD Cert.ReferenceIdeal.τ Cert.ReferenceIdeal.sig) → Buf (Elt Ideal) ℓ)
    (c : Dev Cert.ReferenceIdeal.nD) : Inputs where
  x0 := m ((c.tc : Thread Cert.ReferenceIdeal.nD Cert.ReferenceIdeal.τ).loc Cert.ReferenceIdeal.main_arg0)
  x1 := m ((c.tc : Thread Cert.ReferenceIdeal.nD Cert.ReferenceIdeal.τ).loc Cert.ReferenceIdeal.main_arg1)
  W0 := m ((c.tc : Thread Cert.ReferenceIdeal.nD Cert.ReferenceIdeal.τ).loc Cert.ReferenceIdeal.main_arg2)
  S0 := m ((c.tc : Thread Cert.ReferenceIdeal.nD Cert.ReferenceIdeal.τ).loc Cert.ReferenceIdeal.main_arg3)
  D0 := m ((c.tc : Thread Cert.ReferenceIdeal.nD Cert.ReferenceIdeal.τ).loc Cert.ReferenceIdeal.main_arg4)
  b0 := m ((c.tc : Thread Cert.ReferenceIdeal.nD Cert.ReferenceIdeal.τ).loc Cert.ReferenceIdeal.main_arg5)
  w0 := m ((c.tc : Thread Cert.ReferenceIdeal.nD Cert.ReferenceIdeal.τ).loc Cert.ReferenceIdeal.main_arg6)
  v0 := m ((c.tc : Thread Cert.ReferenceIdeal.nD Cert.ReferenceIdeal.τ).loc Cert.ReferenceIdeal.main_arg7)
  W1 := m ((c.tc : Thread Cert.ReferenceIdeal.nD Cert.ReferenceIdeal.τ).loc Cert.ReferenceIdeal.main_arg8)
  S1 := m ((c.tc : Thread Cert.ReferenceIdeal.nD Cert.ReferenceIdeal.τ).loc Cert.ReferenceIdeal.main_arg9)
  D1 := m ((c.tc : Thread Cert.ReferenceIdeal.nD Cert.ReferenceIdeal.τ).loc Cert.ReferenceIdeal.main_arg10)
  b1 := m ((c.tc : Thread Cert.ReferenceIdeal.nD Cert.ReferenceIdeal.τ).loc Cert.ReferenceIdeal.main_arg11)
  w1 := m ((c.tc : Thread Cert.ReferenceIdeal.nD Cert.ReferenceIdeal.τ).loc Cert.ReferenceIdeal.main_arg12)
  v1 := m ((c.tc : Thread Cert.ReferenceIdeal.nD Cert.ReferenceIdeal.τ).loc Cert.ReferenceIdeal.main_arg13)

/-- From equal arguments that satisfy the precondition, kernel and reference end with equal results. -/
theorem same_results : Cert.algebraic_KernelIdeal_ReferenceIdeal_pre_finite_inputs
    (hKernelIdeal := Cert.KernelIdeal.Gen.facts) (hReferenceIdeal := Cert.ReferenceIdeal.Gen.facts)
    (hPre_finite_inputs := finite_inputs_facts) := by
  intro m g m' g' hpre hargs
  refine ⟨fun c => (Cert.KernelIdeal.Gen.dats m 0 c).arrAt 14 Cert.KernelIdeal.cfg0.N,
    fun c => (Cert.KernelIdeal.Gen.dats m 0 c).arrAt 15 Cert.KernelIdeal.cfg0.N,
    Cert.KernelIdeal.Value.run_blocks m g, (θ_run Cert.ReferenceIdeal.defs _ _).mono (fun r h c => ?_)
      (Cert.ReferenceIdeal.Value.run m' g')⟩
  have H := held_of_finite (kernelInputs m c) (hpre c)
  have E : referenceInputs m' c = kernelInputs m c := (Inputs.mk.injEq ..).mpr (hargs c)
  rw [← E] at H
  refine ⟨(h c).1.trans ((Cert.ReferenceIdeal.Read.val_main_v104_eq _).trans ?_),
    (h c).2.1.trans ((Cert.ReferenceIdeal.Read.val_main_v105_eq _).trans ?_), (h c).2.2⟩
  · funext i
    obtain ⟨b, f, n, rfl⟩ : ∃ b f n, i = ix3 b f n := ⟨_, _, _, eq_ix3 i⟩
    refine (reference_first H b f n).trans ?_
    rw [E] at H ⊢
    exact (first_array m c H b f n).symm
  · funext i
    obtain ⟨b, f, n, rfl⟩ : ∃ b f n, i = ix3 b f n := ⟨_, _, _, eq_ix3 i⟩
    refine (reference_second H b f n).trans ?_
    rw [E] at H ⊢
    exact (second_array m c H b f n).symm

/-- Every claim of this certificate holds. -/
theorem claim : Cert.Claim :=
  ⟨Cert.Kernel.Gen.facts, Cert.KernelIdeal.Gen.facts, Cert.ReferenceIdeal.Gen.facts, finite_inputs_facts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial,
    trivial, same_results⟩

end Cert.Proof

end
